-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S3x512x4096 : Shape := ⟨3, ![3, 512, 4096]⟩
abbrev S3 : Shape := ⟨1, ![3]⟩
abbrev S_ : Shape := ⟨0, ![]⟩
abbrev S1 : Shape := ⟨1, ![1]⟩
abbrev S1x512x4096 : Shape := ⟨3, ![1, 512, 4096]⟩
abbrev S512x4096 : Shape := ⟨2, ![512, 4096]⟩
abbrev S1024x512 : Shape := ⟨2, ![1024, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x512, .bf16⟩
  | .hbm, ⟨2, _⟩ => ⟨S4096x512, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .f32⟩
  | .local _ .vmem, ⟨3, _⟩ => ⟨S3x512x4096, .bf16⟩
  | .local _ .vmem, ⟨4, _⟩ => ⟨S3x512x4096, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_13 : BitVec 32 := 1#32
  let v13 : BitVec 32 := Scalar.muli v7 c1_i32_13
  let v14 : BitVec 32 := Scalar.addi c0_i32_14 v13
  v14.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_22 : BitVec 32 := 1#32
  let v22 : BitVec 32 := Scalar.muli v5 c1_i32_22
  let v23 : BitVec 32 := Scalar.addi c0_i32_23 v22
  v23.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v33 : BitVec 32 := Scalar.muli v2 c1024_i32
  let v50 : Index := Scalar.indexCast v33
  let c0_34 : Index := 0#32
  ![v50.toNat, 0]
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_73 : BitVec 32 := 1#32
  let v76 : BitVec 32 := Scalar.muli v7 c1_i32_73
  let v77 : BitVec 32 := Scalar.addi c0_i32_74 v76
  v77.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_83 : BitVec 32 := 1#32
  let v86 : BitVec 32 := Scalar.muli v5 c1_i32_83
  let v87 : BitVec 32 := Scalar.addi c0_i32_84 v86
  v87.toNat
def k0_off2 (d0 : Dev nD) (c1_i32_90 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_89 : BitVec 32 := 4#32
  let v96 : BitVec 32 := Scalar.addi v2 c4_i32_89
  let v97 : BitVec 32 := Scalar.subi v96 c1_i32_90
  let c4_i32_91 : BitVec 32 := 4#32
  let v98 : BitVec 32 := Scalar.remsi v97 c4_i32_91
  let c1024_i32_97 : BitVec 32 := 1024#32
  let v103 : BitVec 32 := Scalar.muli v98 c1024_i32_97
  let v120 : Index := Scalar.indexCast v103
  let c0_105 : Index := 0#32
  ![v120.toNat, 0]
def k0_off3 (d0 : Dev nD) (c1_i32_92 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v99 : BitVec 32 := Scalar.addi v2 c1_i32_92
  let c4_i32_93 : BitVec 32 := 4#32
  let v100 : BitVec 32 := Scalar.remsi v99 c4_i32_93
  let c1024_i32_109 : BitVec 32 := 1024#32
  let v124 : BitVec 32 := Scalar.muli v100 c1024_i32_109
  let c512_i32_110 : BitVec 32 := 512#32
  let v125 : BitVec 32 := Scalar.addi v124 c512_i32_110
  let v142 : Index := Scalar.indexCast v125
  let c0_118 : Index := 0#32
  ![v142.toNat, 0]
def k0_dev7 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_161 : BitVec 32 := 1#32
  let v172 : BitVec 32 := Scalar.muli v7 c1_i32_161
  let v173 : BitVec 32 := Scalar.addi c0_i32_162 v172
  v173.toNat
def k0_dev8 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_171 : BitVec 32 := 1#32
  let v182 : BitVec 32 := Scalar.muli v5 c1_i32_171
  let v183 : BitVec 32 := Scalar.addi c0_i32_172 v182
  v183.toNat
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Ideal.Ring.lean ====
/-
# The ring of four devices and the protocol its links follow

Every device holds one block of the activations. The lower half of a block travels clockwise, from a device to the one
after it, the upper half the other way round; three hops take every half to every device. A LINK is one direction `d`
(`false` clockwise, `true` the other) and one hop `h`: a remote copy out of the buffer `srcM d h` into the neighbour's
landing buffer `slotM d h`. Everything below is stated once for a link `(d, h)` at a device `c`: its memrefs, its two
semaphore cells, what is in transit, what the cells' duties hand over, what is still owed, and the levels.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.VecWindow

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's own rounds beside the ring's, whose duties are named by a `Bool` -/

/-- The ring's ghost state. -/
abbrev UB : Type := URounds (GSem nD τ sig) Bool
/-- The pipeline's ghost state and the ring's. -/
abbrev UU : Type := UR sig nD τ × UB

local notation "𝕄" => MT nD τ sig Unit (Elt F) ℕ UU ℕ

/-- Where the pipeline's lies in it, -/
abbrev EP : Emb (UR sig nD τ) (MT nD τ sig Unit (Elt F) ℕ UU ℕ) := embL
/-- and the ring's. -/
abbrev ER : Emb UB (MT nD τ sig Unit (Elt F) ℕ UU ℕ) := embR

/-- No loop needs a variant. -/
abbrev 𝒱₀ : Variants := Variants.none

variable (m : (ℓ : Loc nD τ sig) → Buf (Elt F) ℓ) (ρ : Dev nD → PrngReg)

/-- The memory the program starts from. -/
def s₀ : MemSt nD τ sig (Elt F) := ⟨m, fun _ => 0, ρ⟩

/-! ## Neighbours -/

set_option backward.proofsInPublic true in
/-- The neighbour a device sends to in direction `d`. -/
def peer (d : Bool) (c : Dev nD) : Dev nD := ⟨(c.val + cond d 3 1) % 4, Nat.mod_lt _ (by decide)⟩

/-- Going one way and back again is standing still. -/
theorem peer_back (d : Bool) (c : Dev nD) : peer d (peer (!d) c) = c := by revert d c; decide
/-- The other order too. -/
theorem back_peer (d : Bool) (c : Dev nD) : peer (!d) (peer d c) = c := by revert d c; decide

/-- One step in direction `d`, as a permutation of the devices. -/
def turn (d : Bool) : Dev nD ≃ Dev nD := ⟨peer d, peer (!d), back_peer d, peer_back d⟩

set_option backward.proofsInPublic true in
/-- The device whose half block a device holds after `k` hops of direction `d`. -/
def orig (d : Bool) (k : ℕ) (c : Dev nD) : Dev nD := ⟨(c.val + k * cond d 1 3) % 4, Nat.mod_lt _ (by decide)⟩

/-- After no hop a device holds its own half block. -/
theorem orig_zero (d : Bool) (c : Dev nD) : orig d 0 c = c := by revert d c; decide

/-- What a device holds after `k` hops its neighbour holds after one more. -/
theorem orig_peer (d : Bool) (k : ℕ) (c : Dev nD) : orig d (k + 1) (peer d c) = orig d k c := by
  cases d <;> refine Fin.ext ?_ <;> simp only [orig, peer, cond] <;> omega

/-- The device numbers the program computes are the two neighbours'. -/
theorem dev1_eq (c : Dev nD) : (⟨k0_dev1 c, k0_dev1_lt c⟩ : Dev nD) = peer true c := Fin.ext (k0_dev1_eq c)
theorem dev2_eq (c : Dev nD) : (⟨k0_dev2 c, k0_dev2_lt c⟩ : Dev nD) = peer false c := Fin.ext (k0_dev2_eq c)
theorem dev3_eq (c : Dev nD) : (⟨k0_dev3 c, k0_dev3_lt c⟩ : Dev nD) = peer false c := Fin.ext (k0_dev3_eq c)
theorem dev4_eq (c : Dev nD) : (⟨k0_dev4 c, k0_dev4_lt c⟩ : Dev nD) = peer true c := Fin.ext (k0_dev4_eq c)
theorem dev5_eq (c : Dev nD) : (⟨k0_dev5 c, k0_dev5_lt c⟩ : Dev nD) = peer false c := Fin.ext (k0_dev5_eq c)
theorem dev6_eq (c : Dev nD) : (⟨k0_dev6 c, k0_dev6_lt c⟩ : Dev nD) = peer true c := Fin.ext (k0_dev6_eq c)
theorem dev7_eq (c : Dev nD) : (⟨k0_dev7 c, k0_dev7_lt c⟩ : Dev nD) = peer false c := Fin.ext (k0_dev7_eq c)
theorem dev8_eq (c : Dev nD) : (⟨k0_dev8 c, k0_dev8_lt c⟩ : Dev nD) = peer true c := Fin.ext (k0_dev8_eq c)

/-! ## The buffers of a link -/

/-- The staged activations, -/
abbrev xM : Memref sig .tc .vmem S1024x4096 .bf16 := Memref.whole cc0_stg0_0
/-- the staged weights, -/
abbrev wM : Memref sig .tc .vmem S4096x512 .bf16 := Memref.whole cc0_stg1_0
/-- and the staged result. -/
abbrev oM : Memref sig .tc .vmem S4096x512 .f32 := Memref.whole cc0_stg2_0

/-- The landing buffer of a direction, three slots of half a block. -/
abbrev scrM : Bool → Memref sig .tc .vmem S3x512x4096 .bf16
  | false => Memref.whole cc0_scratch0
  | true => Memref.whole cc0_scratch1

/-- A slot lies within its landing buffer, -/
theorem slot_inb (h : Fin 3) : ∀ a, (![h.val, 0, 0] : Fin 3 → Nat) a + S1x512x4096.size a ≤ S3x512x4096.size a := by
  revert h; decide
/-- a half block within its block. -/
theorem win_inb (d : Bool) : ∀ a, (![cond d 512 0, 0] : Fin 2 → Nat) a + S512x4096.size a ≤ S1024x4096.size a := by
  revert d; decide

/-- The rectangle of slot `h`. -/
abbrev slotR (h : Fin 3) : Rect S3x512x4096 := Rect.unit (s := S3x512x4096) ![h.val, 0, 0] S1x512x4096.size (slot_inb h)
/-- The rectangle of the half block direction `d` carries. -/
abbrev winR (d : Bool) : Rect S1024x4096 := Rect.unit (s := S1024x4096) ![cond d 512 0, 0] S512x4096.size (win_inb d)

/-- Slot `h` of direction `d`'s landing buffer, as the program addresses it. -/
abbrev slotM (d : Bool) (h : Fin 3) : Memref sig .tc .vmem S512x4096 .bf16 :=
  ((scrM d).slice (slotR h) (fun _ => rfl)).squeeze S512x4096 squeezes_S1x512x4096_S512x4096

/-- The half of a device's own block that leaves in direction `d`. -/
abbrev winM (d : Bool) : Memref sig .tc .vmem S512x4096 .bf16 := xM.slice (winR d) (fun _ => rfl)

/-- What link `(d, h)` sends: at first the device's own half block, later the slot the hop before filled. -/
abbrev srcM (d : Bool) : Fin 3 → Memref sig .tc .vmem S512x4096 .bf16
  | 0 => winM d
  | 1 => slotM d 0
  | 2 => slotM d 1

/-! ## The semaphore cells -/

/-- The barrier semaphore. -/
abbrev barS : Sems sig S_ := SemArray.scalar (sig.barrier 0 rfl)

/-- The kernel's cells on one device: the barrier's, and of each link the departing end's (`false`) and the arriving
    end's (`true`). -/
abbrev CI : Type := Option (Bool × Bool × Fin 3)

/-- The semaphores of the links' ends are among the program's. -/
theorem num_lt (r d : Bool) (h : Fin 3) : 3 + cond d 6 0 + cond r 3 0 + h.val < sig.nDmaSem := by revert r d h; decide

/-- The DMA semaphore of one end of a link. -/
abbrev linkS (r d : Bool) (h : Fin 3) : DmaSem sig := ⟨3 + cond d 6 0 + cond r 3 0 + h.val, num_lt r d h⟩

/-- The semaphore of a cell. -/
abbrev semOf : CI → SemLoc sig
  | none => .reg barS.sem
  | some (r, d, h) => .dma (linkS r d h)

/-- The cell a semaphore is, if it is one of the kernel's. -/
def role : SemLoc sig → Option CI
  | .reg _ => some none
  | .dma q => if q.val < 3 then none
      else some (some (decide (3 ≤ (q.val - 3) % 6), decide (6 ≤ q.val - 3), ⟨(q.val - 3) % 3, Nat.mod_lt _ (by decide)⟩))

/-- A cell's semaphore is told apart from all others. -/
theorem role_semOf (i : CI) : role (semOf i) = some i := by
  rcases i with _ | ⟨r, d, h⟩
  · rfl
  · revert r d h; decide

/-- The cell `i` of device `c`. -/
abbrev cell (c : Dev nD) (i : CI) : GSem nD τ sig := ((c : Thread nD τ), semOf i)

/-- What one transfer of half a block credits. -/
@[irreducible] def N : ℕ := (slotM false 0).view.dmaCredit
/-- That is a slot. -/
theorem N_eq : N = (slotM false 0).view.dmaCredit := by unfold N; rfl
/-- It is not nothing. -/
theorem N_pos : 0 < N := by rw [N_eq]; exact View.dmaCredit_pos _ (by decide)

/-! ## Contents -/

/-- A device's staged block of activations. -/
def xstg (c : Dev nD) : (cc0_stg0_0 : Ref sig .tc).ty.Contents (Elt F) :=
  (win0_0.blk (0 : Fin 1)).view.read (Elt F) ((s₀ m ρ).mem ((c : Thread nD τ).loc main_arg0))
/-- A device's staged weights. -/
def wstg (c : Dev nD) : (cc0_stg1_0 : Ref sig .tc).ty.Contents (Elt F) :=
  (win0_1.blk (0 : Fin 1)).view.read (Elt F) ((s₀ m ρ).mem ((c : Thread nD τ).loc main_arg1))

/-- The half block of device `e` that travels in direction `d`. -/
def half (d : Bool) (e : Dev nD) : S512x4096.Idx → Elt F .bf16 := (winM d).view.read (Elt F) (xstg m ρ e)

/-- The half block device `c` holds after `k` hops of direction `d`. -/
def carry (d : Bool) (k : ℕ) (c : Dev nD) : S512x4096.Idx → Elt F .bf16 := half m ρ d (orig d k c)

/-- A hop hands on what the device holds. -/
theorem carry_peer (d : Bool) (k : ℕ) (c : Dev nD) : carry m ρ d (k + 1) (peer d c) = carry m ρ d k c := by
  unfold carry; rw [orig_peer]

/-- Device `c` holds the half-block buffer `M`, at share `q`, with the values `X`. -/
def held (c : Dev nD) (M : Memref sig .tc .vmem S512x4096 .bf16) (q : PosShare TreeShare) (X : S512x4096.Idx → Elt F .bf16) : sProp 𝕄 :=
  M.view.loc (c : Thread nD τ) ↦[M.view.set]{q} M.view.rep X

/-- Device `c` holds slot `h` of direction `d` outright, whatever is in it. -/
def room (d : Bool) (h : Fin 3) (c : Dev nD) : sProp 𝕄 :=
  iprop(∃ f : Buf (Elt F) ((slotM d h).view.loc (c : Thread nD τ)), (slotM d h).view.loc (c : Thread nD τ) ↦[(slotM d h).view.set]{fullShare} f)

/-- The three slots of a direction. -/
def rooms (d : Bool) (c : Dev nD) : sProp 𝕄 := iprop(room (F := F) d 0 c ∗ room (F := F) d 1 c ∗ room (F := F) d 2 c)

/-- A held half block may be a duty's payload, -/
instance held_storable (c : Dev nD) (M : Memref sig .tc .vmem S512x4096 .bf16) (q : PosShare TreeShare) (X : S512x4096.Idx → Elt F .bf16) :
    BI.Storable (upEmb : UEmb _ 𝕄) (held c M q X) := by unfold held; infer_instance
/-- so may a free slot, -/
instance room_storable (d : Bool) (h : Fin 3) (c : Dev nD) : BI.Storable (upEmb : UEmb _ 𝕄) (room (F := F) d h c) := by
  unfold room; infer_instance
/-- and so may three. -/
instance rooms_storable (d : Bool) (c : Dev nD) : BI.Storable (upEmb : UEmb _ 𝕄) (rooms (F := F) d c) := by
  unfold rooms; infer_instance

/-! ## The schedule

One round of each cell is used. The barrier has two duties, named by the direction of the neighbour that pays it: that
neighbour hands over the slots the device will send into. A link's two cells have one duty each: the departing end gives
back the half share of what was sent, the arriving end gives the slot with what has landed. -/

/-- What a duty of a cell hands to the device the cell is on. -/
def pay (c : Dev nD) (b : Bool) : Option CI → sProp 𝕄
  | none => iprop(emp)
  | some none => rooms (F := F) b (peer b c)
  | some (some (false, d, h)) => held c (srcM d h) fullShare.left (carry m ρ d h.val c)
  | some (some (true, d, h)) => held c (slotM d h) fullShare (carry m ρ d (h.val + 1) c)

/-- What a duty hands over may be its payload. -/
instance pay_storable (c : Dev nD) (b : Bool) (o : Option CI) : BI.Storable (upEmb : UEmb _ 𝕄) (pay m ρ c b o) := by
  rcases o with _ | _ | ⟨_ | _, d, h⟩ <;> unfold pay <;> infer_instance

/-- The duties of a cell. -/
def dutyOf : Option CI → Finset Bool
  | none => ∅
  | some none => Finset.univ
  | some (some _) => {false}

/-- The units a duty of a cell contributes. -/
def unitsOf : Option CI → ℕ
  | none => N
  | some none => 1
  | some (some _) => N

/-- No duty is empty. -/
theorem unitsOf_pos (o : Option CI) : 0 < unitsOf o := by
  rcases o with _ | _ | _
  · exact N_pos
  · exact Nat.one_pos
  · exact N_pos

/-- The schedule. -/
def ringRd : Rounds.Schedule (GSem nD τ sig) Bool 𝕄 where
  duties g r := if r = 0 ∧ g.1.2 = .tc then dutyOf (role g.2) else ∅
  unitless _ := False
  amount g _ _ := unitsOf (role g.2)
  payload g _ b := pay m ρ g.1.1 b (role g.2)
  amount_pos g _ _ _ := unitsOf_pos _

/-- Its payloads are storable. -/
instance ringRd_payload_storable (g : GSem nD τ sig) (r : ℕ) (b : Bool) :
    BI.Storable (upEmb : UEmb _ 𝕄) ((ringRd (F := F) m ρ).payload g r b) := pay_storable m ρ g.1.1 b (role g.2)

/-- A cell's duties in the one round, -/
theorem duties_cell (c : Dev nD) (i : CI) : (ringRd (F := F) m ρ).duties (cell c i) 0 = dutyOf (some i) := by
  show (if 0 = 0 ∧ (cell c i).1.2 = .tc then dutyOf (role (semOf i)) else ∅) = _
  rw [if_pos ⟨rfl, rfl⟩, role_semOf]
/-- none in later ones, -/
theorem duties_later (g : GSem nD τ sig) : ∀ r, 1 ≤ r → (ringRd (F := F) m ρ).duties g r = ∅ :=
  fun r hr => if_neg fun h => by omega
/-- their amounts, -/
theorem amount_cell (c : Dev nD) (i : CI) (b : Bool) : (ringRd (F := F) m ρ).amount (cell c i) 0 b = unitsOf (some i) := by
  show unitsOf (role (semOf i)) = _; rw [role_semOf]
/-- and what they hand over. -/
theorem payload_cell (c : Dev nD) (i : CI) (b : Bool) : (ringRd (F := F) m ρ).payload (cell c i) 0 b = pay m ρ c b (some i) := by
  show pay m ρ c b (role (semOf i)) = _; rw [role_semOf]

/-- A barrier waits for two signals, -/
theorem expect_bar (c : Dev nD) : (ringRd (F := F) m ρ).expect (cell c none) 0 = 2 := by
  unfold Schedule.expect Schedule.amountOf
  rw [duties_cell, Finset.sum_congr rfl fun b _ => amount_cell m ρ c none b]
  rfl
/-- an end of a link for one half block. -/
theorem expect_link (c : Dev nD) (l : Bool × Bool × Fin 3) : (ringRd (F := F) m ρ).expect (cell c (some l)) 0 = N := by
  unfold Schedule.expect Schedule.amountOf
  rw [duties_cell, Finset.sum_congr rfl fun b _ => amount_cell m ρ c (some l) b]
  exact Finset.sum_singleton _ _

/-- Everything the barrier's round hands over: the slots of the two neighbours. -/
theorem rest_bar (c : Dev nD) :
    bigSep ((ringRd (F := F) m ρ).duties (cell c none) 0 \ ∅) (fun b => (ringRd (F := F) m ρ).payload (cell c none) 0 b)
      = iprop(rooms (F := F) false (peer false c) ∗ rooms (F := F) true (peer true c)) := by
  rw [Finset.sdiff_empty, duties_cell]
  show bigSep Finset.univ _ = _
  rw [bigSep_univ_eq_bigSepL [false, true] (by decide) (by decide), bigSepL_cons_cons, bigSepL_singleton, payload_cell, payload_cell]
  rfl
/-- Everything one end of a link hands over. -/
theorem rest_link (c : Dev nD) (l : Bool × Bool × Fin 3) :
    bigSep ((ringRd (F := F) m ρ).duties (cell c (some l)) 0 \ ∅) (fun b => (ringRd (F := F) m ρ).payload (cell c (some l)) 0 b)
      = pay m ρ c false (some (some l)) := by
  rw [Finset.sdiff_empty, duties_cell]
  show bigSep {false} _ = _
  rw [bigSep_singleton, payload_cell]

/-! ## What a device owes, and the levels -/

/-- The credit link `(d, h)` owes the neighbour's arriving end. -/
def due (c : Dev nD) (d : Bool) (h : Fin 3) : CellTallies nD τ sig Unit := tallyAt (cell (peer d c) (some (true, d, h))) () N

/-- What a device owes before its last `j` hops: innermost the last hop's links. -/
def owedHops (c : Dev nD) : ℕ → CellTallies nD τ sig Unit
  | 0 => 0
  | j + 1 => owedHops c j + due c true ⟨2 - j, by omega⟩ + due c false ⟨2 - j, by omega⟩

/-- What a device owes after its first signal. -/
def owedOne (c : Dev nD) : CellTallies nD τ sig Unit := owedHops c 3 + tallyAt (cell (peer false c) none) () 1
/-- What a device owes at the start. -/
def owedAll (c : Dev nD) : CellTallies nD τ sig Unit := owedOne c + tallyAt (cell (peer true c) none) () 1

/-- The level of a cell: the barrier below the arriving ends, those by their hops; whatever else lowest. -/
def levelOf : Option CI → ℕ
  | some none => 1
  | some (some (true, _, h)) => 2 + h.val
  | _ => 0

/-- The cells with a level are those of the TensorCores. -/
def L (g : GSem nD τ sig) : Finset Unit := if g.1.2 = .tc then {()} else ∅
/-- A cell's level. -/
def lv (g : GSem nD τ sig) (_ : Unit) : ℕ := levelOf (role g.2)

/-- Another core has none. -/
theorem L_of_ne (g : GSem nD τ sig) (h : g.1.2 ≠ .tc) : L g = ∅ := if_neg h
/-- Each of these has the one level. -/
theorem L_tc (c : Dev nD) (sm : SemLoc sig) : L ((c : Thread nD τ), sm) = {()} := if_pos rfl
/-- The level of one of the kernel's cells. -/
theorem lv_cell (c : Dev nD) (i : CI) (u : Unit) : lv (cell c i) u = levelOf (some i) := by
  show levelOf (role (semOf i)) = _; rw [role_semOf]

/-- A sum of tallies with one credit more is positive only where the sum was, or at the credit's cell. -/
theorem pos_add_tally {O : CellTallies nD τ sig Unit} {g g' : GSem nD τ sig} {n : ℕ} {u : Unit} (h : 0 < (O + tallyAt g' () n) g u) :
    0 < O g u ∨ g = g' := by
  rw [Pi.add_apply, Finsupp.add_apply, tallyAt_apply] at h
  by_cases hg : g = g'
  · exact .inr hg
  · rw [if_neg fun h' => hg h'.1, Nat.add_zero] at h; exact .inl h

/-- Before its last `j` hops a device owes arriving ends only, of those hops. -/
theorem owedHops_pos {c : Dev nD} {j : ℕ} {g : GSem nD τ sig} {u : Unit} (h : 0 < owedHops c j g u) :
    ∃ (e : Dev nD) (d : Bool) (k : Fin 3), g = cell e (some (true, d, k)) ∧ 2 < k.val + j := by
  induction j with
  | zero => exact absurd h (Nat.lt_irrefl 0)
  | succ j ih =>
    unfold owedHops due at h
    rcases pos_add_tally h with h | rfl
    · rcases pos_add_tally h with h | rfl
      · obtain ⟨e, d, k, hg, hk⟩ := ih h; exact ⟨e, d, k, hg, by omega⟩
      · exact ⟨_, _, _, rfl, by show 2 < 2 - j + (j + 1); omega⟩
    · exact ⟨_, _, _, rfl, by show 2 < 2 - j + (j + 1); omega⟩

/-- At the start it owes, besides, the neighbours' barriers. -/
theorem owedAll_pos {c : Dev nD} {g : GSem nD τ sig} {u : Unit} (h : 0 < owedAll c g u) :
    (∃ (e : Dev nD) (d : Bool) (k : Fin 3), g = cell e (some (true, d, k))) ∨ ∃ e : Dev nD, g = cell e none := by
  unfold owedAll owedOne at h
  rcases pos_add_tally h with h | rfl
  · rcases pos_add_tally h with h | rfl
    · obtain ⟨e, d, k, hg, -⟩ := owedHops_pos h; exact .inl ⟨e, d, k, hg⟩
    · exact .inr ⟨_, rfl⟩
  · exact .inr ⟨_, rfl⟩

/-- A device may wait on a semaphore below everything it owes. -/
theorem mayWait_below (c : Dev nD) (sm : SemLoc sig) (O : CellTallies nD τ sig Unit)
    (h : ∀ g u, 0 < O g u → g.1.2 = .tc ∧ levelOf (role sm) < lv g u) :
    (levAts L lv : sProp 𝕄) ⊢ MayWait (c : Thread nD τ) sm () O :=
  MayOwe.of_cut (L := L) (lev := lv) (levelOf (role sm))
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_rfl)
    (fun g u hg => (h g u hg).2)

/-- Before its last `j` hops a device may wait on the cells of earlier hops. -/
theorem mayWait_hops (c : Dev nD) (i : CI) (j : ℕ) (hi : levelOf (some i) + j < 5) :
    (levAts L lv : sProp 𝕄) ⊢ MayWait (c : Thread nD τ) (semOf i) () (owedHops c j) :=
  mayWait_below c _ _ fun g u hg => by
    obtain ⟨e, d, k, rfl, hk⟩ := owedHops_pos hg
    refine ⟨rfl, ?_⟩
    rw [lv_cell, role_semOf]
    show _ < 2 + k.val
    omega

/-- At the start a device may wait on any semaphore that is none of the kernel's cells; at the end on any. -/
theorem mayWait_stage (c : Dev nD) (sm : SemLoc sig) (hs : role sm = none) (O : CellTallies nD τ sig Unit) (hO : O = owedAll c ∨ O = 0) :
    (levAts L lv : sProp 𝕄) ⊢ MayWait (c : Thread nD τ) sm () O :=
  mayWait_below c _ _ fun g u hg => by
    rcases hO with rfl | rfl
    · rw [hs]
      rcases owedAll_pos hg with ⟨e, d, k, rfl⟩ | ⟨e, rfl⟩
      · exact ⟨rfl, by rw [lv_cell]; show 0 < 2 + k.val; omega⟩
      · exact ⟨rfl, by rw [lv_cell]; exact Nat.one_pos⟩
    · exact absurd hg (Nat.lt_irrefl 0)

end Cert.KernelIdeal.Gather

end
-- ==== Proof.Ideal.Hops.lean ====
/-
# One hop of one link

The rules a device's run uses at a link: the remote copy out of it, the wait for its departing end, the wait for its
arriving end. Each is proved once, for a link `(d, h)` at a device `c`, from the records every device shares.
-/
module

public import proofs.«01_k».proof.Proof.Ideal.Ring

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What every device knows -/

/-- A cell of a device, by its index. -/
abbrev cellAt (x : Dev nD × CI) : GSem nD τ sig := cell x.1 x.2

/-- Every cell of every device runs the schedule and has reached its round. -/
def records (K : Dev nD × CI → ℕ) : sProp 𝕄 :=
  iprop((bigSep Finset.univ fun x : Dev nD × CI => cellInv ER (ringRd m ρ) (K x) (cellAt x))
    ∗ bigSep Finset.univ fun x : Dev nD × CI => reached ER (cellAt x) 0)

/-- That is known for good. -/
instance records_persistent (K : Dev nD × CI → ℕ) : BI.Persistent (records m ρ K) := by unfold records; infer_instance

/-- Of it, that one cell runs the schedule, -/
theorem record_inv (K : Dev nD × CI → ℕ) (c : Dev nD) (i : CI) :
    records m ρ K ⊢ cellInv ER (ringRd m ρ) (K (c, i)) (cell c i) := by
  unfold records
  exact sep_elim_left.trans (bigSep_elim (Finset.mem_univ (c, i)))
/-- and that it has reached its round. -/
theorem record_reached (K : Dev nD × CI → ℕ) (c : Dev nD) (i : CI) :
    records m ρ K ⊢ reached ER (cell c i) 0 := by
  unfold records
  exact sep_elim_right.trans (bigSep_elim (Finset.mem_univ (c, i)))

/-! ## What a device holds of a link, stage by stage -/

/-- What a device still owes, whatever waits it has made. -/
def owing (c : Dev nD) (O : CellTallies nD τ sig Unit) : sProp 𝕄 := iprop(∃ W : Waits sig Unit, owes (c : Thread nD τ) O W)

/-- Before the copy: the departing end unused, and the two duties the copy pays. -/
def leaving (c : Dev nD) (d : Bool) (h : Fin 3) : sProp 𝕄 :=
  iprop(atPos ER (cell c (some (false, d, h))) 0 ∅ 0 ∗ dutyTok ER (cell c (some (false, d, h))) 0 false
    ∗ dutyTok ER (cell (peer d c) (some (true, d, h))) 0 false)

/-- An end of a link that will be paid: unused, with the credit to wait for it. -/
def coming (c : Dev nD) (l : Bool × Bool × Fin 3) : sProp 𝕄 :=
  iprop(atPos ER (cell c (some l)) 0 ∅ 0 ∗ cred (tallyAt (cell c (some l)) () N))

/-! ## The copy -/

/-- A copy into a slot credits one half block. -/
theorem slot_amount (d : Bool) (h : Fin 3) (q : DmaSem sig) : (slotM d h).view.amount (.dma q) = N := by
  rw [N_eq]

/-- Half a block written whole over a slot is that half block held there. -/
theorem landed (c : Dev nD) (d : Bool) (h : Fin 3) (fd : Buf (Elt F) ((slotM d h).view.loc (c : Thread nD τ))) (X : S512x4096.Idx → Elt F .bf16) :
    ((slotM d h).view.loc (c : Thread nD τ) ↦[(slotM d h).view.set]{fullShare} (slotM d h).view.write (Elt F) fd X Finset.univ : sProp 𝕄)
      = held c (slotM d h) fullShare X := by
  unfold held
  rw [pointsTo_rep (c : Thread nD τ) (slotM d h) _ fullShare, View.read_write_univ]

/-- The remote copy of link `(d, h)`: the half share of what is sent goes to the departing end, the neighbour's slot,
    filled, to its arriving end, and the credit owed there is paid. -/
theorem wp_copy (K : Dev nD × CI → ℕ) (c : Dev nD) (d : Bool) (h : Fin 3) (t : ℕ) (ht : t = h.val) (n : Dev nD) (hn : n = peer d c) (O : CellTallies nD τ sig Unit)
    {src dst : Memref sig .tc .vmem S512x4096 .bf16} (hsrc : src = srcM d h) (hdst : dst = slotM d h)
    {sS sV : DmaSem sig} (hS : sS = linkS false d h) (hV : sV = linkS true d h)
    {hsc : dst.view.ref.isScScratch = false} {hws : src.view.WordExact} {hwd : dst.view.WordExact}
    {hsem : DmaTarget.Typed .vmem (.dma sV) (.remote (Dev.tc n : Thread nD τ) dst (.dma sS) hsc)}
    {α : Type} {Q : α → sProp 𝕄} {k : PUnit → Prog (TpuEff nD τ sig (Elt F) Λ₀ .tc) α} :
    records m ρ K
      ⊢ iprop(leaving (F := F) c d h -∗ held c (srcM d h) fullShare.left (carry m ρ d t c) -∗ room (F := F) d h (peer d c)
          -∗ owing (F := F) c (O + due c d h)
          -∗ ((coming (F := F) c (false, d, h) ∗ owing (F := F) c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sV) hws hwd hsem) k) Q) := by
  subst ht hn hsrc hdst hS hV
  unfold leaving room owing held coming
  iintro #HR ⟨Hat, Ht, Ht'⟩ Hsrc ⟨%fd, Hdst⟩ ⟨%W, HO⟩ Hk
  iapply (Rounds.wp_send_pointsTo 𝒱₀ ER (ringRd m ρ) (c : Thread nD τ) none
    (κ₁ := K (c, some (false, d, h))) (κ₂ := K (peer d c, some (true, d, h))) (r₁ := 0) (r₂ := 0) (d₁ := false) (d₂ := false) (fd := fd)
    (by rw [duties_cell m ρ c (some (false, d, h))]; exact Finset.mem_singleton_self _)
    (by rw [duties_cell m ρ (peer d c) (some (true, d, h))]; exact Finset.mem_singleton_self _)
    () () N (slot_amount d h _) (amount_cell m ρ c (some (false, d, h)) false) (amount_cell m ρ (peer d c) (some (true, d, h)) false) O rfl (W := W)
    (by rw [payload_cell m ρ c (some (false, d, h))]; exact BI.Entails.refl _)
    (by
      rw [payload_cell m ρ (peer d c) (some (true, d, h)), landed, View.read_rep]
      show _ ⊢ held _ _ _ _
      rw [carry_peer])) $$ [Ht Ht' Hsrc Hdst HO]
  · isplitr; · iapply (record_inv m ρ K c (some (false, d, h))); iexact HR
    isplitr; · iapply (record_inv m ρ K (peer d c) (some (true, d, h))); iexact HR
    isplitl [Hsrc]; · iexact Hsrc
    isplitl [Hdst]; · iexact Hdst
    isplitl [HO]; · iexact HO
    isplitl [Ht]; · iexact Ht
    isplitr; · iapply (record_reached m ρ K c (some (false, d, h))); iexact HR
    isplitl [Ht']; · iexact Ht'
    iapply (record_reached m ρ K (peer d c) (some (true, d, h))); iexact HR
  iintro ⟨Hc, HO⟩
  iapply Hk
  isplitl [Hat Hc]
  · isplitl [Hat] <;> iassumption
  iexists W; iexact HO

/-! ## The waits -/

/-- The wait for one end of a link, owing only later hops: the end's payload comes with it and the end is done. -/
theorem wp_end (K : Dev nD × CI → ℕ) (c : Dev nD) (r d : Bool) (h : Fin 3) (j : ℕ) (hj : h.val + j < 3)
    {q : DmaSem sig} (hq : q = linkS r d h) {src dst : Memref sig .tc .vmem S512x4096 .bf16} (hN : dst.view.dmaCredit = N)
    {hws : src.view.WordExact} {hwd : dst.view.WordExact}
    {α : Type} {Q : α → sProp 𝕄} {k : PUnit → Prog (TpuEff nD τ sig (Elt F) Λ₀ .tc) α} :
    records m ρ K
      ⊢ iprop(levAts L lv -∗ coming (F := F) c (r, d, h) -∗ owing (F := F) c (owedHops c j)
          -∗ ((pay m ρ c false (some (some (r, d, h))) ∗ semVal (cell c (some (r, d, h))) 0 ∗ owing (F := F) c (owedHops c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hws hwd) k) Q) := by
  subst hq
  unfold coming owing
  iintro #HR #Hlev ⟨Hat, Hc⟩ ⟨%W, HO⟩ Hk
  iapply (Rounds.wp_wait_rest_token 𝒱₀ ER (ringRd m ρ) (c : Thread nD τ) none (κ := K (c, some (r, d, h)))
      (wpE_waitDma2_eq 𝒱₀ (c : Thread nD τ) none Set.univ) (Set.mem_univ _) () (O := owedHops c j) (W := W) (R := 0) (m := 0) (T := ∅)
      (by rw [Nat.zero_add, hN, expect_link m ρ c (r, d, h)])) $$ [Hc HO Hat]
  · isplitr; · iapply (record_inv m ρ K c (some (r, d, h))); iexact HR
    isplitl [Hc]; · rw [hN]; iexact Hc
    isplitl [HO]; · iexact HO
    isplitr
    · iapply (mayWait_hops c (some (r, d, h)) j (by cases r <;> simp only [levelOf] <;> omega)); iexact Hlev
    iexact Hat
  iintro ⟨HO, Hat, -, Hpay⟩
  imod (Rounds.cell_close ER (ringRd m ρ) (Set.mem_univ (K (c, some (r, d, h)))) (fun h => h) (R := 0 + 1)
    (duties_later m ρ (cell c (some (r, d, h))))) $$ [Hat] with Hz
  · isplitr; · iapply (record_inv m ρ K c (some (r, d, h))); iexact HR
    iexact Hat
  iapply Hk
  isplitl [Hpay]; · iapply (Entails.of_eq (rest_link m ρ c (r, d, h))); iexact Hpay
  isplitl [Hz]; · iexact Hz
  iexists _; iexact HO

/-- The wait for a departing end gives back the half share of what was sent. -/
theorem wp_sent (K : Dev nD × CI → ℕ) (c : Dev nD) (d : Bool) (h : Fin 3) (t : ℕ) (ht : t = h.val) (j : ℕ) (hj : h.val + j < 3)
    {q : DmaSem sig} (hq : q = linkS false d h) {src dst : Memref sig .tc .vmem S512x4096 .bf16} (hN : dst.view.dmaCredit = N)
    {hws : src.view.WordExact} {hwd : dst.view.WordExact}
    {α : Type} {Q : α → sProp 𝕄} {k : PUnit → Prog (TpuEff nD τ sig (Elt F) Λ₀ .tc) α} :
    records m ρ K
      ⊢ iprop(levAts L lv -∗ coming (F := F) c (false, d, h) -∗ owing (F := F) c (owedHops c j)
          -∗ ((held c (srcM d h) fullShare.left (carry m ρ d t c) ∗ semVal (cell c (some (false, d, h))) 0 ∗ owing (F := F) c (owedHops c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hws hwd) k) Q) := by
  subst ht
  exact wp_end m ρ K c false d h j hj hq hN

/-- The wait for an arriving end gives the slot with what has landed. -/
theorem wp_landed (K : Dev nD × CI → ℕ) (c : Dev nD) (d : Bool) (h : Fin 3) (t : ℕ) (ht : t = h.val + 1) (j : ℕ) (hj : h.val + j < 3)
    {q : DmaSem sig} (hq : q = linkS true d h) {src dst : Memref sig .tc .vmem S512x4096 .bf16} (hN : dst.view.dmaCredit = N)
    {hws : src.view.WordExact} {hwd : dst.view.WordExact}
    {α : Type} {Q : α → sProp 𝕄} {k : PUnit → Prog (TpuEff nD τ sig (Elt F) Λ₀ .tc) α} :
    records m ρ K
      ⊢ iprop(levAts L lv -∗ coming (F := F) c (true, d, h) -∗ owing (F := F) c (owedHops c j)
          -∗ ((held c (slotM d h) fullShare (carry m ρ d t c) ∗ semVal (cell c (some (true, d, h))) 0 ∗ owing (F := F) c (owedHops c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hws hwd) k) Q) := by
  subst ht
  exact wp_end m ρ K c true d h j hj hq hN

/-! ## The barrier -/

/-- A signal to a neighbour's barrier: the device's own slots for the way back go with it. -/
theorem wp_hello (K : Dev nD × CI → ℕ) (c : Dev nD) (d e : Bool) (he : e = !d) (n : Dev nD) (hn : n = peer d c) (O : CellTallies nD τ sig Unit)
    {α : Type} {Q : α → sProp 𝕄} {k : PUnit → Prog (TpuEff nD τ sig (Elt F) Λ₀ .tc) α} :
    records m ρ K
      ⊢ iprop(dutyTok ER (cell (peer d c) none) 0 e -∗ rooms (F := F) e c
          -∗ owing (F := F) c (O + tallyAt (cell (peer d c) none) () 1)
          -∗ (owing (F := F) c O -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n, .tc) barS.sem (1#32 : BitVec 32).toInt) k) Q) := by
  subst hn he
  unfold owing
  iintro #HR Ht Hrooms ⟨%W, HO⟩ Hk
  iapply (Rounds.wp_signal 𝒱₀ ER (ringRd m ρ) (c : Thread nD τ) none (dst := (peer d c : Thread nD τ)) (κ := K (peer d c, none))
      (d := !d) (by rw [duties_cell m ρ (peer d c) none]; exact Finset.mem_univ _)
      ((amount_cell m ρ (peer d c) none (!d)).trans (by decide)) () O rfl) $$ [HO Ht Hrooms]
  · isplitr; · iapply (record_inv m ρ K (peer d c) none); iexact HR
    isplitl [HO]; · iexact HO
    isplitl [Ht]; · iexact Ht
    isplitl [Hrooms]
    · iapply (Entails.of_eq (show rooms (F := F) (!d) c = (ringRd m ρ).payload (cell (peer d c) none) 0 (!d) from by
        rw [payload_cell m ρ (peer d c) none]
        show _ = rooms (F := F) (!d) (peer (!d) (peer d c))
        rw [back_peer]))
      iexact Hrooms
    · iapply (record_reached m ρ K (peer d c) none); iexact HR
  iintro HO
  iapply Hk
  iexists W; iexact HO

/-- The wait for both neighbours' signals: their slots come with it, and the barrier's cell is done. -/
theorem wp_meet (K : Dev nD × CI → ℕ) (c : Dev nD)
    {α : Type} {Q : α → sProp 𝕄} {k : PUnit → Prog (TpuEff nD τ sig (Elt F) Λ₀ .tc) α} :
    records m ρ K
      ⊢ iprop(levAts L lv -∗ atPos ER (cell c none) 0 ∅ 0 -∗ cred (tallyAt (cell c none) () 2) -∗ owing (F := F) c (owedHops c 3)
          -∗ ((rooms (F := F) false (peer false c) ∗ rooms (F := F) true (peer true c) ∗ semVal (cell c none) 0 ∗ owing (F := F) c (owedHops c 3))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS.sem (2#32 : BitVec 32).toInt) k) Q) := by
  unfold owing
  iintro #HR #Hlev Hat Hc ⟨%W, HO⟩ Hk
  iapply (Rounds.wp_wait_rest_token 𝒱₀ ER (ringRd m ρ) (c : Thread nD τ) none (κ := K (c, none))
      (wpE_semWait_eq 𝒱₀ (c : Thread nD τ) none Set.univ) (Set.mem_univ _) () (O := owedHops c 3) (W := W) (R := 0) (m := 0) (T := ∅)
      (by rw [expect_bar m ρ c]; decide)) $$ [Hc HO Hat]
  · isplitr; · iapply (record_inv m ρ K c none); iexact HR
    isplitl [Hc]; · iexact Hc
    isplitl [HO]; · iexact HO
    isplitr; · iapply (mayWait_hops c none 3 (by decide)); iexact Hlev
    iexact Hat
  iintro ⟨HO, Hat, -, Hpay⟩
  imod (Rounds.cell_close ER (ringRd m ρ) (Set.mem_univ (K (c, none))) (fun h => h) (R := 0 + 1) (duties_later m ρ (cell c none))) $$ [Hat] with Hz
  · isplitr; · iapply (record_inv m ρ K c none); iexact HR
    iexact Hat
  ihave Hp := (Entails.of_eq (rest_bar m ρ c)) $$ Hpay
  icases Hp with ⟨H1, H2⟩
  iapply Hk
  isplitl [H1]; · iexact H1
  isplitl [H2]; · iexact H2
  isplitl [Hz]; · iexact Hz
  iexists _; iexact HO

end Cert.KernelIdeal.Gather

end
-- ==== Proof.Ideal.Buffers.lean ====
/-
# The buffers, cut and put together

A device's landing buffer is its three slots; its own block is read whole at one half share while the other half share,
cut into the two half blocks, is in transit. Also what a load of a slot reads.
-/
module

public import proofs.«01_k».proof.Proof.Ideal.Hops

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The landing buffers -/

/-- A slot's positions are those of its rectangle in the landing buffer. -/
theorem slot_set (d : Bool) (h : Fin 3) : (slotM d h).view.set = (scrM d).view.setOn (slotR h).set := by
  exact (View.set_reshape _ _).trans (View.set_slice _ _)

/-- Different slots have no element in common. -/
theorem slot_disjoint (d : Bool) (h h' : Fin 3) (hh : h ≠ h') : Disjoint (slotM d h).view.set (slotM d h').view.set := by
  rw [slot_set, slot_set]
  refine (Finset.disjoint_map _).mpr (Finset.disjoint_left.mpr fun j hj hj' => hh (Fin.ext ?_))
  have h1 := Rect.mem_set_unit.mp hj 0
  have h2 := Rect.mem_set_unit.mp hj' 0
  have e1 : h.val ≤ (j 0).val ∧ (j 0).val < h.val + 1 := h1
  have e2 : h'.val ≤ (j 0).val ∧ (j 0).val < h'.val + 1 := h2
  omega

/-- The three slots are the whole buffer. -/
theorem slot_union (d : Bool) : (Finset.univ : Finset (Fin 3)).biUnion (fun h => (slotM d h).view.set) = (scrM d).view.set := by
  ext i
  rw [Finset.mem_biUnion]
  constructor
  · rintro ⟨h, -, hi⟩
    rw [slot_set] at hi
    exact Finset.map_subset_map.mpr (Finset.subset_univ _) hi
  · intro hi
    obtain ⟨j, -, rfl⟩ := Finset.mem_map.mp hi
    obtain ⟨h, hh⟩ : ∃ h : Fin 3, h.val = (j 0).val := ⟨j 0, rfl⟩
    refine ⟨h, Finset.mem_univ _, ?_⟩
    rw [slot_set]
    refine Finset.mem_map.mpr ⟨j, Rect.mem_set_unit.mpr fun a => ?_, rfl⟩
    have ha := (j a).isLt
    fin_cases a
    · show h.val ≤ (j 0).val ∧ (j 0).val < h.val + 1; omega
    · exact ⟨Nat.zero_le _, by show (j 1).val < 0 + 512; have : (j 1).val < 512 := ha; omega⟩
    · exact ⟨Nat.zero_le _, by show (j 2).val < 0 + 4096; have : (j 2).val < 4096 := ha; omega⟩

/-- The three slots, one by one. -/
theorem slots_three (Φ : Fin 3 → sProp 𝕄) : bigSep Finset.univ Φ = iprop(Φ 0 ∗ Φ 1 ∗ Φ 2) :=
  bigSep_univ_eq_bigSepL [0, 1, 2] (by decide) (by decide) Φ

/-- A whole landing buffer, whatever is in it. -/
def landing (d : Bool) (c : Dev nD) : sProp 𝕄 :=
  iprop(∃ f : Buf (Elt F) ((scrM d).view.loc (c : Thread nD τ)), (scrM d).view.loc (c : Thread nD τ) ↦[(scrM d).view.set]{fullShare} f)

/-- A landing buffer is cut into its slots. -/
theorem landing_cut (d : Bool) (c : Dev nD) : (landing (F := F) d c) ⊢ rooms d c := by
  unfold landing rooms
  iintro ⟨%f, H⟩
  ihave H3 := (Entails.of_eq ((congrArg (fun S => ((scrM d).view.loc (c : Thread nD τ) ↦[S]{fullShare} f : sProp 𝕄)) (slot_union d).symm).trans
    ((pointsTo_biUnion _ _ fun h _ h' _ hh => slot_disjoint d h h' hh).trans (slots_three _)))) $$ H
  icases H3 with ⟨H0, H1, H2⟩
  unfold room
  isplitl [H0]; · iexists f; iexact H0
  isplitl [H1]; · iexists f; iexact H1
  iexists f; iexact H2

/-- And put together again, whatever the slots hold. -/
theorem landing_join (d : Bool) (c : Dev nD) (X : Fin 3 → S512x4096.Idx → Elt F .bf16) :
    iprop(held c (slotM d 0) fullShare (X 0) ∗ held c (slotM d 1) fullShare (X 1) ∗ held c (slotM d 2) fullShare (X 2)) ⊢ landing (F := F) d c := by
  unfold landing
  refine (Entails.of_eq (slots_three (F := F) fun h => held c (slotM d h) fullShare (X h)).symm).trans ?_
  unfold held
  refine (pointsTo_biUnion_join (ℓ := (scrM d).view.loc (c : Thread nD τ)) (q := fullShare) Finset.univ (fun h => (slotM d h).view.set)
    (fun h => (slotM d h).view.rep (X h)) ((slotM d 0).view.rep (X 0)) fun h _ h' _ hh => slot_disjoint d h h' hh).trans ?_
  rw [slot_union]
  iintro ⟨%g, -, H⟩
  iexists g; iexact H

/-! ## What a load of a slot reads -/

/-- The vector a load of slot `h` reads when the slot holds `X`. -/
def slotVal (d : Bool) (h : Fin 3) (X : S512x4096.Idx → Elt F .bf16) : Vec F S1x512x4096 .bf16 :=
  ((scrM d).access (slotR h)).read (Elt F) ((slotM d h).view.rep X)

/-- Its leading axis dropped it is `X`. -/
theorem slotVal_cast (d : Bool) (h : Fin 3) (X : S512x4096.Idx → Elt F .bf16) :
    shapeCast S512x4096 (slotVal d h X) shapeCasts_S1x512x4096_S512x4096 = X := by
  refine Eq.trans ?_ (View.read_rep (slotM d h).view X)
  cases d <;> rfl

/-- A load of a slot gives what is held there. -/
theorem wp_load_slot (c : Dev nD) (d : Bool) (h : Fin 3) (q : PosShare TreeShare) (X : S512x4096.Idx → Elt F .bf16)
    {hl : (scrM d).view.LoadsAt (slotR h).toLoadRect} {α : Type} {Q : α → sProp 𝕄}
    {k : Vec F S1x512x4096 .bf16 → Prog (TpuEff nD τ sig (Elt F) Λ₀ .tc) α} :
    held c (slotM d h) q X
      ⊢ iprop((held c (slotM d h) q X -∗ wp frame (wpE (defs₀ (F := F)) 𝒱₀ (c : Thread nD τ) none) Set.univ (k (slotVal d h X)) Q)
          -∗ wp frame (wpE (defs₀ (F := F)) 𝒱₀ (c : Thread nD τ) none) Set.univ (.op (.load (scrM d) (slotR h).toLoadRect hl) k) Q) := by
  unfold held slotVal
  exact wp_load_rect 𝒱₀ (c : Thread nD τ) none Set.univ (m := scrM d) (r := slotR h)
    (Finset.Subset.antisymm_iff.mp ((View.set_slice _ _).trans (slot_set d h).symm)).1

/-! ## A device's own block -/

/-- A half block's positions are those of its rectangle. -/
theorem win_set (d : Bool) : (winM d).view.set = (winR d).set := View.set_slice_whole _ _

/-- The two halves of a block do not meet, -/
theorem win_disjoint : Disjoint (winM false).view.set (winM true).view.set := by
  rw [win_set, win_set]
  refine Finset.disjoint_left.mpr fun j hj hj' => ?_
  have h1 : 0 ≤ (j 0).val ∧ (j 0).val < 0 + 512 := Rect.mem_set_unit.mp hj 0
  have h2 : 512 ≤ (j 0).val ∧ (j 0).val < 512 + 512 := Rect.mem_set_unit.mp hj' 0
  omega

/-- and together they are the block. -/
theorem win_union : (winM false).view.set ∪ (winM true).view.set = Finset.univ := by
  rw [win_set, win_set]
  refine Finset.eq_univ_of_forall fun j => ?_
  have h0 : (j 0).val < 1024 := (j 0).isLt
  have h1 : (j 1).val < 4096 := (j 1).isLt
  rw [Finset.mem_union, Rect.mem_set_unit, Rect.mem_set_unit]
  by_cases h : (j 0).val < 512
  · left; intro a; fin_cases a
    · show 0 ≤ (j 0).val ∧ (j 0).val < 0 + 512; omega
    · show 0 ≤ (j 1).val ∧ (j 1).val < 0 + 4096; omega
  · right; intro a; fin_cases a
    · show 512 ≤ (j 0).val ∧ (j 0).val < 512 + 512; omega
    · show 0 ≤ (j 1).val ∧ (j 1).val < 0 + 4096; omega

/-- The half block in direction `d`, at a share: as the link's source. -/
theorem win_held (d : Bool) (c : Dev nD) (q : PosShare TreeShare) :
    ((winM d).view.loc (c : Thread nD τ) ↦[(winM d).view.set]{q} xstg m ρ c : sProp 𝕄) = held c (srcM d 0) q (carry m ρ d 0 c) := by
  unfold held carry half
  rw [orig_zero]
  exact pointsTo_rep (c : Thread nD τ) (winM d) (xstg m ρ c) q

/-- A device's own block: the two half blocks at one half share, and the whole at the other. -/
theorem own_block (c : Dev nD) : (((c : Thread nD τ).loc cc0_stg0_0) ↦{fullShare} xstg m ρ c : sProp 𝕄)
    ⊣⊢ iprop((held c (srcM false 0) fullShare.left (carry m ρ false 0 c) ∗ held c (srcM true 0) fullShare.left (carry m ρ true 0 c))
      ∗ (((c : Thread nD τ).loc cc0_stg0_0) ↦{fullShare.right} xstg m ρ c)) := by
  rw [← win_held, ← win_held]
  have hu := pointsTo_union (ℓ := (c : Thread nD τ).loc cc0_stg0_0) (q := fullShare.left) (f := xstg m ρ c) (Ix := Unit) (Name := ℕ) (U := UU) (Lvl := ℕ) win_disjoint
  rw [win_union] at hu
  exact (pointsTo_share (PosShare.mem_left_op_right fullShare)).trans (sep_congr hu ⟨BI.Entails.refl _, BI.Entails.refl _⟩)

/-- A slot, cut in two shares and put together. -/
theorem slot_share (c : Dev nD) (d : Bool) (h : Fin 3) (X : S512x4096.Idx → Elt F .bf16) :
    held c (slotM d h) fullShare X ⊣⊢ iprop(held c (slotM d h) fullShare.left X ∗ held c (slotM d h) fullShare.right X) := by
  unfold held
  exact pointsTo_share (PosShare.mem_left_op_right fullShare)

end Cert.KernelIdeal.Gather

end
-- ==== Proof.Ideal.Out.lean ====
/-
# The result's buffer

What a device leaves in its result's staging buffer, and the store of one band of it. A device's own block gives the
band of its number; a half block that came from device `b` gives half of band `b`. The stores come one by one, so the
buffer is held agreeing with the final contents on the rows stored so far.
-/
module

public import proofs.«01_k».proof.Proof.Ideal.Buffers
public import Idealize.ShloMosaic.Lib.Pointwise.Index
public import Idealize.ShloMosaic.Lib.WritesUnit

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A remainder is below what it is taken by. -/
theorem band_lt {i : ℕ} (n : ℕ) (hn : 0 < n) : i % n < n := Nat.mod_lt _ hn

/-- The result of device `c`: row `i` belongs to band `i / 1024`; the device's own band is its own block's product under
    the activation function, another is that of the half block row `i` came in. -/
def outAt (c : Dev nD) : S4096x512.Idx → Elt F .f32 := fun y =>
  if (y 0).val / 1024 = c.val then
    k0_pay2 (xstg m ρ c) (wstg m ρ c) (ix2 (⟨(y 0).val % 1024, band_lt 1024 (by decide)⟩ : Fin 1024) (⟨(y 1).val, (y 1).isLt⟩ : Fin 512))
  else
    k0_pay1 (half m ρ (decide (512 ≤ (y 0).val % 1024)) ⟨(y 0).val / 1024 % 4, band_lt 4 (by decide)⟩) (wstg m ρ c)
      (ix2 (⟨(y 0).val % 512, band_lt 512 (by decide)⟩ : Fin 512) (⟨(y 1).val, (y 1).isLt⟩ : Fin 512))

/-- The result's staging buffer, agreeing with the final contents on the rows `R`. -/
def outHas (c : Dev nD) (R : ℕ → Prop) : sProp 𝕄 :=
  iprop(∃ f : S4096x512.Idx → Elt F .f32, ⌜∀ y : S4096x512.Idx, R (y 0).val → f y = outAt m ρ c y⌝
    ∗ (oM.view.loc (c : Thread nD τ) ↦[Finset.univ]{fullShare} f))

/-- A store of rows `o` up to `o + n`, of the final contents' values there, adds these rows. -/
theorem wp_write_rows (c : Dev nD) (R : ℕ → Prop) (o n : ℕ) {off size : Fin 2 → ℕ} {inb : ∀ a, off a + size a ≤ S4096x512.size a}
    (h0 : off 0 = o) (h1 : off 1 = 0) (hs0 : size 0 = n) (hs1 : size 1 = 512)
    {w : (Rect.unit (s := S4096x512) off size inb).shape.Idx → Elt F .f32}
    (hw : ∀ z : (Rect.unit (s := S4096x512) off size inb).shape.Idx, w z = outAt m ρ c ((Rect.unit (s := S4096x512) off size inb).emb z))
    {hx : (oM.access (Rect.unit (s := S4096x512) off size inb)).Stores Finset.univ}
    {hm : (Finset.univ : Finset (Rect.unit (s := S4096x512) off size inb).shape.Idx) = Finset.univ ∨ ∀ a, (Rect.unit (s := S4096x512) off size inb).stride a = 1}
    {α : Type} {Q : α → sProp 𝕄} {k : PUnit → Prog (TpuEff nD τ sig (Elt F) Λ₀ .tc) α} :
    outHas m ρ c R
      ⊢ iprop((outHas m ρ c (fun i => R i ∨ (o ≤ i ∧ i < o + n)) -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S4096x512) off size inb) w Finset.univ hx hm) k) Q) := by
  unfold outHas
  iintro ⟨%f, %hf, Ho⟩ Hk
  iapply (wp_store 𝒱₀ (c : Thread nD τ) none Set.univ (m := oM) (r := Rect.unit (s := S4096x512) off size inb) (Mk := Finset.univ) (f := f)
    (Finset.subset_univ _)) $$ Ho
  iintro Ho
  iapply Hk
  iexists (oM.access (Rect.unit (s := S4096x512) off size inb)).write (Elt F) f w Finset.univ
  isplitr
  · ipureintro
    intro y hy
    by_cases h : ∀ a, off a ≤ (y a).val ∧ (y a).val < off a + size a
    · have hmem : y ∈ (oM.access (Rect.unit (s := S4096x512) off size inb)).set := by
        rw [View.set_slice_whole]; exact Rect.mem_set_unit.mpr h
      obtain ⟨z, -, rfl⟩ := Finset.mem_map.mp hmem
      exact (View.write_emb_of_mem (v := oM.access (Rect.unit (s := S4096x512) off size inb)) f w (Finset.mem_univ z)).trans (hw z)
    · have hno : y ∉ (oM.access (Rect.unit (s := S4096x512) off size inb)).setOn Finset.univ := fun hmem => by
        have hs : y ∈ (oM.access (Rect.unit (s := S4096x512) off size inb)).set := hmem
        rw [View.set_slice_whole] at hs
        exact h fun a => Rect.mem_set_unit.mp hs a
      refine (View.write_of_not_mem _ _ _ hno).trans (hf y (hy.resolve_right fun hr => h fun a => ?_))
      have hj : (y 1).val < 512 := (y 1).isLt
      fin_cases a
      · show off 0 ≤ (y 0).val ∧ (y 0).val < off 0 + size 0; omega
      · show off 1 ≤ (y 1).val ∧ (y 1).val < off 1 + size 1; omega
  · iexact Ho

/-- A dead load of some rows. -/
theorem wp_out_load (c : Dev nD) (R : ℕ → Prop) {r : LoadRect S4096x512} {hl : oM.view.LoadsAt r}
    {α : Type} {Q : α → sProp 𝕄} {k : (r.shape.Idx → Elt F .f32) → Prog (TpuEff nD τ sig (Elt F) Λ₀ .tc) α} :
    outHas m ρ c R
      ⊢ iprop((∀ X, outHas m ρ c R -∗ wp frame (wpE (defs₀ (F := F)) 𝒱₀ (c : Thread nD τ) none) Set.univ (k X) Q)
          -∗ wp frame (wpE (defs₀ (F := F)) 𝒱₀ (c : Thread nD τ) none) Set.univ (.op (.load oM r hl) k) Q) := by
  unfold outHas
  iintro ⟨%f, %hf, Ho⟩ Hk
  iapply (wp_load 𝒱₀ (c : Thread nD τ) none Set.univ (m := oM) (Finset.subset_univ _)) $$ Ho
  iintro Ho
  iapply Hk
  iexists f
  isplitr; · ipureintro; exact hf
  iexact Ho

/-- The store of the device's own band. -/
theorem own_rows (c : Dev nD) {off : Fin 2 → ℕ} (hoff : off = ![1024 * c.val, 0]) (inb : ∀ a, off a + S1024x512.size a ≤ S4096x512.size a)
    (z : (Rect.unit (s := S4096x512) off S1024x512.size inb).shape.Idx) :
    k0_pay2 (xstg m ρ c) (wstg m ρ c) z = outAt m ρ c ((Rect.unit (s := S4096x512) off S1024x512.size inb).emb z) := by
  subst hoff
  have e0 : ((Rect.unit (s := S4096x512) ![1024 * c.val, 0] S1024x512.size inb).emb z 0).val = 1024 * c.val + 1 * (z 0).val := rfl
  have e1 : ((Rect.unit (s := S4096x512) ![1024 * c.val, 0] S1024x512.size inb).emb z 1).val = 0 + 1 * (z 1).val := rfl
  have hz0 : (z 0).val < 1024 := (z 0).isLt
  unfold outAt
  rw [if_pos (by rw [e0]; omega)]
  refine congrArg _ (funext fun a => ?_)
  fin_cases a
  · exact Fin.ext (by show (z 0).val = _ % 1024; rw [e0]; omega)
  · exact Fin.ext (e1.trans (by omega : 0 + 1 * (z 1).val = (z 1).val)).symm

/-- The store of the half band a half block after `k` hops gives, `1 ≤ k ≤ 3`. -/
theorem hop_rows (c : Dev nD) (d : Bool) (k : ℕ) (hk : 1 ≤ k ∧ k ≤ 3) {off : Fin 2 → ℕ} (hoff : off = ![1024 * (orig d k c).val + cond d 512 0, 0])
    (inb : ∀ a, off a + S512x512.size a ≤ S4096x512.size a) (z : (Rect.unit (s := S4096x512) off S512x512.size inb).shape.Idx) :
    k0_pay1 (carry m ρ d k c) (wstg m ρ c) z = outAt m ρ c ((Rect.unit (s := S4096x512) off S512x512.size inb).emb z) := by
  subst hoff
  have e0 : ((Rect.unit (s := S4096x512) ![1024 * (orig d k c).val + cond d 512 0, 0] S512x512.size inb).emb z 0).val
      = (1024 * (orig d k c).val + cond d 512 0) + 1 * (z 0).val := rfl
  have e1 : ((Rect.unit (s := S4096x512) ![1024 * (orig d k c).val + cond d 512 0, 0] S512x512.size inb).emb z 1).val = 0 + 1 * (z 1).val := rfl
  have hz0 : (z 0).val < 512 := (z 0).isLt
  have ho : (orig d k c).val < 4 := (orig d k c).isLt
  have hc : c.val < 4 := c.isLt
  have hne : (orig d k c).val ≠ c.val := by
    show (c.val + k * cond d 1 3) % 4 ≠ c.val
    cases d <;> simp only [cond] <;> omega
  have hd : cond d 512 0 ≤ 512 := by cases d <;> decide
  unfold outAt carry
  rw [if_neg (by rw [e0]; omega)]
  have h1 : decide (512 ≤ ((Rect.unit (s := S4096x512) ![1024 * (orig d k c).val + cond d 512 0, 0] S512x512.size inb).emb z 0).val % 1024) = d := by
    rw [e0]; cases d <;> simp only [cond, decide_eq_true_eq, decide_eq_false_iff_not] <;> omega
  have h2 : (⟨((Rect.unit (s := S4096x512) ![1024 * (orig d k c).val + cond d 512 0, 0] S512x512.size inb).emb z 0).val / 1024 % 4, band_lt 4 (by decide)⟩ : Dev nD)
      = orig d k c := Fin.ext (by show _ / 1024 % 4 = _; rw [e0]; omega)
  rw [h1, h2]
  refine congrArg _ (funext fun a => ?_)
  fin_cases a
  · exact Fin.ext (by show (z 0).val = _ % 512; rw [e0]; cases d <;> simp only [cond] <;> omega)
  · exact Fin.ext (e1.trans (by omega : 0 + 1 * (z 1).val = (z 1).val)).symm

/-- The rows of the half band a half block after `k` hops gives. -/
abbrev hopRows (c : Dev nD) (d : Bool) (k i : ℕ) : Prop :=
  1024 * (orig d k c).val + cond d 512 0 ≤ i ∧ i < 1024 * (orig d k c).val + cond d 512 0 + 512

/-- The bands stored are all the rows. -/
theorem rows_all (c : Dev nD) (i : ℕ) (hi : i < 4096) :
    ((((((False ∨ (1024 * c.val ≤ i ∧ i < 1024 * c.val + 1024)) ∨ hopRows c false 1 i) ∨ hopRows c true 1 i) ∨ hopRows c false 2 i)
      ∨ hopRows c true 2 i) ∨ hopRows c false 3 i) ∨ hopRows c true 3 i := by
  have hc : c.val < 4 := c.isLt
  unfold hopRows orig
  simp only [cond]
  omega

end Cert.KernelIdeal.Gather

end
-- ==== Proof.Ideal.Parts.lean ====
/-
# A device's run, part by part

The kernel's text is cut into ten parts; here is what each does on a device `c`, by the rules of the links and of the
buffers. `records` and the levels are what every part knows; a part is stated as: from what it needs, whatever holds of
its end given what it leaves holds of its start.
-/
module

public import proofs.«01_k».proof.Proof.Ideal.Out

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

/-! ## Loads of the whole blocks, and the products -/

/-- The offset of a whole buffer. -/
theorem zero_off : (![0, 0] : Fin 2 → Nat) = fun _ => 0 := funext fun a => by fin_cases a <;> rfl

/-- A load of a device's own block. -/
theorem wp_x_load (q : PosShare TreeShare) (X : (cc0_stg0_0 : Ref sig .tc).ty.Contents (Elt F))
    {inb : ∀ a, (![0, 0] : Fin 2 → Nat) a + S1024x4096.size a ≤ S1024x4096.size a}
    {hl : xM.view.LoadsAt (Rect.unit (s := S1024x4096) ![0, 0] S1024x4096.size inb).toLoadRect}
    {α : Type} {Q : α → sProp 𝕄} {k : Vec F S1024x4096 .bf16 → Prog (TpuEff nD τ sig (Elt F) Λ₀ .tc) α} :
    (((c : Thread nD τ).loc cc0_stg0_0) ↦{q} X : sProp 𝕄)
      ⊢ iprop(((((c : Thread nD τ).loc cc0_stg0_0) ↦{q} X) -∗ wp frame (wpE (defs₀ (F := F)) 𝒱₀ (c : Thread nD τ) none) Set.univ (k X) Q)
          -∗ wp frame (wpE (defs₀ (F := F)) 𝒱₀ (c : Thread nD τ) none) Set.univ
              (.op (.load xM (Rect.unit (s := S1024x4096) ![0, 0] S1024x4096.size inb).toLoadRect hl) k) Q) := by
  iintro Hx Hk
  iapply (wp_load 𝒱₀ (c : Thread nD τ) none Set.univ (m := xM) (q := q) (f := X) (Finset.subset_univ _)) $$ Hx
  iintro Hx
  rw [show xM.view.readAt (Elt F) (Rect.unit (s := S1024x4096) ![0, 0] S1024x4096.size inb).toLoadRect X = X from
    Memref.readAt_unit_zero (Elt F) cc0_stg0_0 zero_off _ X]
  iapply Hk; iexact Hx

/-- A load of a device's weights. -/
theorem wp_w_load (q : PosShare TreeShare) (X : (cc0_stg1_0 : Ref sig .tc).ty.Contents (Elt F))
    {inb : ∀ a, (![0, 0] : Fin 2 → Nat) a + S4096x512.size a ≤ S4096x512.size a}
    {hl : wM.view.LoadsAt (Rect.unit (s := S4096x512) ![0, 0] S4096x512.size inb).toLoadRect}
    {α : Type} {Q : α → sProp 𝕄} {k : Vec F S4096x512 .bf16 → Prog (TpuEff nD τ sig (Elt F) Λ₀ .tc) α} :
    (((c : Thread nD τ).loc cc0_stg1_0) ↦{q} X : sProp 𝕄)
      ⊢ iprop(((((c : Thread nD τ).loc cc0_stg1_0) ↦{q} X) -∗ wp frame (wpE (defs₀ (F := F)) 𝒱₀ (c : Thread nD τ) none) Set.univ (k X) Q)
          -∗ wp frame (wpE (defs₀ (F := F)) 𝒱₀ (c : Thread nD τ) none) Set.univ
              (.op (.load wM (Rect.unit (s := S4096x512) ![0, 0] S4096x512.size inb).toLoadRect hl) k) Q) := by
  iintro Hx Hk
  iapply (wp_load 𝒱₀ (c : Thread nD τ) none Set.univ (m := wM) (q := q) (f := X) (Finset.subset_univ _)) $$ Hx
  iintro Hx
  rw [show wM.view.readAt (Elt F) (Rect.unit (s := S4096x512) ![0, 0] S4096x512.size inb).toLoadRect X = X from
    Memref.readAt_unit_zero (Elt F) cc0_stg1_0 zero_off _ X]
  iapply Hk; iexact Hx

/-- The printed products of a slot are the product of what the slot holds. -/
theorem pay7_eq (v : Vec F S1x512x4096 .bf16) (w : Vec F S4096x512 .bf16) :
    k0_pay7 v w = k0_pay1 (shapeCast S512x4096 v shapeCasts_S1x512x4096_S512x4096) w := rfl
/-- So is the second, -/
theorem pay11_eq (v : Vec F S1x512x4096 .bf16) (w : Vec F S4096x512 .bf16) :
    k0_pay11 v w = k0_pay1 (shapeCast S512x4096 v shapeCasts_S1x512x4096_S512x4096) w := rfl
/-- the third, -/
theorem pay12_eq (v : Vec F S1x512x4096 .bf16) (w : Vec F S4096x512 .bf16) :
    k0_pay12 v w = k0_pay1 (shapeCast S512x4096 v shapeCasts_S1x512x4096_S512x4096) w := rfl
/-- the one that is printed in three parts, -/
theorem pay6_eq (v : Vec F S1x512x4096 .bf16) (w : Vec F S4096x512 .bf16) :
    k0_pay6 (k0_pay4 v w) (k0_pay5 v w) (Scalar.ofBits .f32 0x3F4C422A#32) = k0_pay1 (shapeCast S512x4096 v shapeCasts_S1x512x4096_S512x4096) w := rfl
/-- and the one in two. -/
theorem pay10_eq (v : Vec F S1x512x4096 .bf16) (w : Vec F S4096x512 .bf16) :
    k0_pay10 (k0_pay8 v) (k0_pay9 w) = k0_pay1 (shapeCast S512x4096 v shapeCasts_S1x512x4096_S512x4096) w := rfl

/-- The offsets of the half bands are their devices'. -/
theorem off_false (r : Fin 3) : k0_off2 c (BitVec.ofNat 32 (1 + r.val)) = ![1024 * (orig false (r.val + 1) c).val + cond false 512 0, 0] := by
  rw [k0_off2_eq]
  congr 1
  show 1024 * ((c.val + 3 - r.val) % 4) = 1024 * ((c.val + (r.val + 1) * 3) % 4) + 0
  have := r.isLt; omega
/-- The other direction likewise. -/
theorem off_true (r : Fin 3) : k0_off3 c (BitVec.ofNat 32 (1 + r.val)) = ![1024 * (orig true (r.val + 1) c).val + cond true 512 0, 0] := by
  rw [k0_off3_eq]
  congr 1
  show 1024 * ((c.val + r.val + 1) % 4) + 512 = 1024 * ((c.val + (r.val + 1) * 1) % 4) + 512
  have := r.isLt; omega

/-- A copy out of a half block is worth one half block, -/
theorem win_credit (d : Bool) : (winM d).view.dmaCredit = N := by rw [N_eq]
/-- and one out of a slot too. -/
theorem slot_credit (d : Bool) (h : Fin 3) : (slotM d h).view.dmaCredit = N := by rw [N_eq]

/-- The store of the half band of what slot `h` of direction `d` holds. -/
theorem wp_hop_store (d : Bool) (k : ℕ) (hk : 1 ≤ k ∧ k ≤ 3) (R : ℕ → Prop) {off : Fin 2 → ℕ}
    (hoff : off = ![1024 * (orig d k c).val + cond d 512 0, 0]) {inb : ∀ a, off a + S512x512.size a ≤ S4096x512.size a}
    {w : (Rect.unit (s := S4096x512) off S512x512.size inb).shape.Idx → Elt F .f32}
    (hw : w = k0_pay1 (carry m ρ d k c) (wstg m ρ c))
    {hx : (oM.access (Rect.unit (s := S4096x512) off S512x512.size inb)).Stores Finset.univ}
    {hm : (Finset.univ : Finset (Rect.unit (s := S4096x512) off S512x512.size inb).shape.Idx) = Finset.univ ∨ ∀ a, (Rect.unit (s := S4096x512) off S512x512.size inb).stride a = 1}
    {α : Type} {Q : α → sProp 𝕄} {kt : PUnit → Prog (TpuEff nD τ sig (Elt F) Λ₀ .tc) α} :
    outHas m ρ c R
      ⊢ iprop((outHas m ρ c (fun i => R i ∨ hopRows c d k i) -∗ wp frame (wpE (defs₀ (F := F)) 𝒱₀ (c : Thread nD τ) none) Set.univ (kt ⟨⟩) Q)
          -∗ wp frame (wpE (defs₀ (F := F)) 𝒱₀ (c : Thread nD τ) none) Set.univ
              (.op (.store oM (Rect.unit (s := S4096x512) off S512x512.size inb) w Finset.univ hx hm) kt) Q) :=
  wp_write_rows m ρ c R (1024 * (orig d k c).val + cond d 512 0) 512 (by rw [hoff]; rfl) (by rw [hoff]; rfl) rfl rfl
    (fun z => by rw [hw]; exact hop_rows m ρ c d k hk hoff inb z)

/-- What is owed before the last hops, hop by hop. -/
theorem hops_three : owedHops c 3 = owedHops c 2 + due c true 0 + due c false 0 := rfl
/-- The second hop's links are owed before those of the last, -/
theorem hops_two : owedHops c 2 = owedHops c 1 + due c true 1 + due c false 1 := rfl
/-- and those of the last remain. -/
theorem hops_one : owedHops c 1 = owedHops c 0 + due c true 2 + due c false 2 := rfl

/-! ## The parts -/

/-- Both neighbours told, both met, the clockwise copy of the first hop under way. -/
theorem part1 {Q : (Σ' (d0 : Dev nD) (v2 : BitVec 32) (v5 : BitVec 32), BitVec 32) → sProp 𝕄} :
    records m ρ K
      ⊢ iprop(levAts L lv -∗ dutyTok ER (cell (peer true c) none) 0 false -∗ dutyTok ER (cell (peer false c) none) 0 true
          -∗ rooms (F := F) false c -∗ rooms (F := F) true c -∗ atPos ER (cell c none) 0 ∅ 0 -∗ cred (tallyAt (cell c none) () 2)
          -∗ leaving (F := F) c false 0 -∗ held c (srcM false 0) fullShare.left (carry m ρ false 0 c) -∗ owing (F := F) c (owedAll c)
          -∗ (∀ v2 v5 v7, (room (F := F) false 1 (peer false c) ∗ room (F := F) false 2 (peer false c) ∗ rooms (F := F) true (peer true c)
                ∗ semVal (cell c none) 0 ∗ coming (F := F) c (false, false, 0) ∗ owing (F := F) c (owedHops c 2 + due c true 0)) -∗ Q ⟨c, v2, v5, v7⟩)
          -∗ wp frame (wpE (defs₀ (F := F)) 𝒱₀ (c : Thread nD τ) none) Set.univ
              (k0_part1 xM (Memref.isWhole_whole _) wM (Memref.isWhole_whole _) oM (Memref.isWhole_whole _) (Memref.whole cc0_scratch0) (Memref.isWhole_whole _)
                (Memref.whole cc0_scratch1) (Memref.isWhole_whole _) cc0_scratch2 cc0_scratch3 cc0_scratch4 cc0_scratch5) Q) := by
  rw [k0_part1_eq_skeleton]; unfold k0_part1_skel
  simp only [semSignalWord, semWaitWord, Prog.lift, Prog.bind_op, Prog.bind_ret, Prog.pure_eq_ret, Prog.bind_assoc, wp_deviceId]
  iintro #HR #Hlev Ht1 Ht2 Hr1 Hr2 Hat Hc Hl Hs HO Hk
  unfold owedAll
  iapply (wp_hello m ρ K c true false rfl _ (dev1_eq c) (owedOne c)) $$ HR Ht1 Hr1 HO
  iintro HO
  unfold owedOne
  iapply (wp_hello m ρ K c false true rfl _ (dev2_eq c) (owedHops c 3)) $$ HR Ht2 Hr2 HO
  iintro HO
  iapply (wp_meet m ρ K c) $$ HR Hlev Hat Hc HO
  iintro ⟨Hf, Ht, Hz, HO⟩
  rw [hops_three]
  unfold rooms
  icases Hf with ⟨Hf0, Hf1, Hf2⟩
  iapply (wp_copy m ρ K c false 0 0 rfl _ (dev3_eq c) (owedHops c 2 + due c true 0) rfl rfl rfl rfl) $$ HR Hl Hs Hf0 HO
  iintro ⟨Hcs, HO⟩
  rw [wp_ret]; imodintro
  iapply Hk
  iframe

/-- The other copy of the first hop under way, the device's own band stored, the clockwise copy's source back. -/
theorem part2 (v2 : BitVec 32) {Q : PUnit → sProp 𝕄} :
    records m ρ K
      ⊢ iprop(levAts L lv
          -∗ leaving (F := F) c true 0
          -∗ held c (srcM true 0) fullShare.left (carry m ρ true 0 c)
          -∗ room (F := F) true 0 (peer true c)
          -∗ owing (F := F) c (owedHops c 2 + due c true 0)
          -∗ (((c : Thread nD τ).loc cc0_stg0_0) ↦{fullShare.right} xstg m ρ c)
          -∗ (((c : Thread nD τ).loc cc0_stg1_0) ↦{fullShare} wstg m ρ c)
          -∗ outHas m ρ c (fun _ => False)
          -∗ coming (F := F) c (false, false, 0)
          -∗ ((coming (F := F) c (false, true, 0)
              ∗ (((c : Thread nD τ).loc cc0_stg0_0) ↦{fullShare.right} xstg m ρ c)
              ∗ (((c : Thread nD τ).loc cc0_stg1_0) ↦{fullShare} wstg m ρ c)
              ∗ outHas m ρ c (fun i => False ∨ (1024 * c.val ≤ i ∧ i < 1024 * c.val + 1024))
              ∗ held c (srcM false 0) fullShare.left (carry m ρ false 0 c)
              ∗ semVal (cell c (some (false, false, 0))) 0
              ∗ owing (F := F) c (owedHops c 2)) -∗ Q ⟨⟩)
          -∗ wp frame (wpE (defs₀ (F := F)) 𝒱₀ (c : Thread nD τ) none) Set.univ
              (k0_part2 xM (Memref.isWhole_whole _) wM (Memref.isWhole_whole _) oM (Memref.isWhole_whole _) (Memref.whole cc0_scratch0) (Memref.isWhole_whole _)
                (Memref.whole cc0_scratch1) (Memref.isWhole_whole _) cc0_scratch2 cc0_scratch3 cc0_scratch4 cc0_scratch5 c v2) Q) := by
  rw [k0_part2_eq_skeleton]; unfold k0_part2_skel
  simp only [semSignalWord, semWaitWord, Prog.lift, Prog.bind_op, Prog.bind_ret, Prog.pure_eq_ret, Prog.bind_assoc, wp_deviceId]
  iintro #HR #Hlev Hl Hs Hr HO Hx Hw Ho Hc Hk
  iapply (wp_copy m ρ K c true 0 0 rfl _ (dev4_eq c) (owedHops c 2) rfl rfl rfl rfl) $$ HR Hl Hs Hr HO
  iintro ⟨Hc', HO⟩
  iapply (wp_x_load c) $$ Hx; iintro Hx
  iapply (wp_w_load c) $$ Hw; iintro Hw
  iapply (wp_out_load m ρ c) $$ Ho; iintro %_ Ho
  iapply (wp_write_rows m ρ c _ (1024 * c.val) 1024 (by rw [k0_off1_eq]; rfl) (by rw [k0_off1_eq]; rfl) rfl rfl
    (own_rows m ρ c (k0_off1_eq c) _)) $$ Ho
  iintro Ho
  iapply (wp_sent m ρ K c false 0 0 rfl 2 (by decide) rfl (win_credit false)) $$ HR Hlev Hc HO
  iintro ⟨Hs, Hz, HO⟩
  rw [wp_ret]; imodintro
  iapply Hk
  iframe

/-- The rest of the first hop over: both slots `0` filled. -/
theorem part3 (v5 v7 : BitVec 32) {Q : PUnit → sProp 𝕄} :
    records m ρ K
      ⊢ iprop(levAts L lv
          -∗ coming (F := F) c (true, false, 0)
          -∗ coming (F := F) c (false, true, 0)
          -∗ coming (F := F) c (true, true, 0)
          -∗ owing (F := F) c (owedHops c 2)
          -∗ ((held c (slotM false 0) fullShare (carry m ρ false 1 c)
              ∗ semVal (cell c (some (true, false, 0))) 0
              ∗ held c (srcM true 0) fullShare.left (carry m ρ true 0 c)
              ∗ semVal (cell c (some (false, true, 0))) 0
              ∗ held c (slotM true 0) fullShare (carry m ρ true 1 c)
              ∗ semVal (cell c (some (true, true, 0))) 0
              ∗ owing (F := F) c (owedHops c 2)) -∗ Q ⟨⟩)
          -∗ wp frame (wpE (defs₀ (F := F)) 𝒱₀ (c : Thread nD τ) none) Set.univ
              (k0_part3 xM (Memref.isWhole_whole _) wM (Memref.isWhole_whole _) oM (Memref.isWhole_whole _) (Memref.whole cc0_scratch0) (Memref.isWhole_whole _)
                (Memref.whole cc0_scratch1) (Memref.isWhole_whole _) cc0_scratch2 cc0_scratch3 cc0_scratch4 cc0_scratch5 v5 v7) Q) := by
  rw [k0_part3_eq_skeleton]; unfold k0_part3_skel
  simp only [semSignalWord, semWaitWord, Prog.lift, Prog.bind_op, Prog.bind_ret, Prog.pure_eq_ret, Prog.bind_assoc, wp_deviceId]
  iintro #HR #Hlev Hc1 Hc2 Hc3 HO Hk
  iapply (wp_landed m ρ K c false 0 1 rfl 2 (by decide) rfl (slot_credit false 0)) $$ HR Hlev Hc1 HO
  iintro ⟨Hs1, Hz1, HO⟩
  iapply (wp_sent m ρ K c true 0 0 rfl 2 (by decide) rfl (win_credit true)) $$ HR Hlev Hc2 HO
  iintro ⟨Hs2, Hz2, HO⟩
  iapply (wp_landed m ρ K c true 0 1 rfl 2 (by decide) rfl (slot_credit true 0)) $$ HR Hlev Hc3 HO
  iintro ⟨Hs3, Hz3, HO⟩
  rw [wp_ret]; imodintro
  iapply Hk
  iframe

/-- The product of what a load of a slot reads is the product of what the slot holds. -/
theorem pay_slot (d : Bool) (h : Fin 3) (X : S512x4096.Idx → Elt F .bf16) (w : Vec F S4096x512 .bf16) :
    k0_pay1 (shapeCast S512x4096 (slotVal d h X) shapeCasts_S1x512x4096_S512x4096) w = k0_pay1 X w := by rw [slotVal_cast]

/-- The second hop's copies under way, the clockwise slot `0` loaded. -/
theorem part4 (v2 v5 : BitVec 32) {Q : (Σ' (v100 : BitVec 32) (v103 : BitVec 32) (v108 : FVec F S512x512 .f32) (v113 : FVec F S512x512 .f32), F .f32) → sProp 𝕄} :
    records m ρ K
      ⊢ iprop(levAts L lv
          -∗ leaving (F := F) c false 1
          -∗ held c (srcM false 1) fullShare.left (carry m ρ false 1 c)
          -∗ room (F := F) false 1 (peer false c)
          -∗ leaving (F := F) c true 1
          -∗ held c (srcM true 1) fullShare.left (carry m ρ true 1 c)
          -∗ room (F := F) true 1 (peer true c)
          -∗ owing (F := F) c (owedHops c 2)
          -∗ held c (slotM false 0) fullShare.right (carry m ρ false 1 c)
          -∗ (((c : Thread nD τ).loc cc0_stg1_0) ↦{fullShare} wstg m ρ c)
          -∗ (∀ v100 v103, (coming (F := F) c (false, false, 1)
              ∗ coming (F := F) c (false, true, 1)
              ∗ owing (F := F) c (owedHops c 1)
              ∗ held c (slotM false 0) fullShare.right (carry m ρ false 1 c)
              ∗ (((c : Thread nD τ).loc cc0_stg1_0) ↦{fullShare} wstg m ρ c)) -∗ Q ⟨v100, v103, k0_pay4 (slotVal false 0 (carry m ρ false 1 c)) (wstg m ρ c), k0_pay5 (slotVal false 0 (carry m ρ false 1 c)) (wstg m ρ c), Scalar.ofBits .f32 0x3F4C422A#32⟩)
          -∗ wp frame (wpE (defs₀ (F := F)) 𝒱₀ (c : Thread nD τ) none) Set.univ
              (k0_part4 xM (Memref.isWhole_whole _) wM (Memref.isWhole_whole _) oM (Memref.isWhole_whole _) (Memref.whole cc0_scratch0) (Memref.isWhole_whole _)
                (Memref.whole cc0_scratch1) (Memref.isWhole_whole _) cc0_scratch2 cc0_scratch3 cc0_scratch4 cc0_scratch5 c v2 v5) Q) := by
  rw [k0_part4_eq_skeleton]; unfold k0_part4_skel
  simp only [semSignalWord, semWaitWord, Prog.lift, Prog.bind_op, Prog.bind_ret, Prog.pure_eq_ret, Prog.bind_assoc, wp_deviceId]
  iintro #HR #Hlev Hl1 Hs1 Hr1 Hl2 Hs2 Hr2 HO Hv Hw Hk
  rw [hops_two]
  iapply (wp_copy m ρ K c false 1 1 rfl _ (dev5_eq c) (owedHops c 1 + due c true 1) rfl rfl rfl rfl) $$ HR Hl1 Hs1 Hr1 HO
  iintro ⟨Hc1, HO⟩
  iapply (wp_copy m ρ K c true 1 1 rfl _ (dev6_eq c) (owedHops c 1) rfl rfl rfl rfl) $$ HR Hl2 Hs2 Hr2 HO
  iintro ⟨Hc2, HO⟩
  iapply (wp_load_slot c false 0 fullShare.right (carry m ρ false 1 c)) $$ Hv; iintro Hv
  iapply (wp_w_load c) $$ Hw; iintro Hw
  rw [wp_ret]; imodintro
  iapply Hk
  iframe

/-- The two half bands of the slots `0` stored. -/
theorem part5 (v100 v103 : BitVec 32) (v108 v113 : FVec F S512x512 .f32) (cst : F .f32) (R : ℕ → Prop)
    (hv : k0_pay6 v108 v113 cst = k0_pay1 (carry m ρ false 1 c) (wstg m ρ c)) {Q : PUnit → sProp 𝕄} :
    records m ρ K
      ⊢ iprop(levAts L lv
          -∗ outHas m ρ c R
          -∗ held c (slotM true 0) fullShare.right (carry m ρ true 1 c)
          -∗ (((c : Thread nD τ).loc cc0_stg1_0) ↦{fullShare} wstg m ρ c)
          -∗ ((outHas m ρ c (fun i => (R i ∨ hopRows c false 1 i) ∨ hopRows c true 1 i)
              ∗ held c (slotM true 0) fullShare.right (carry m ρ true 1 c)
              ∗ (((c : Thread nD τ).loc cc0_stg1_0) ↦{fullShare} wstg m ρ c)) -∗ Q ⟨⟩)
          -∗ wp frame (wpE (defs₀ (F := F)) 𝒱₀ (c : Thread nD τ) none) Set.univ
              (k0_part5 xM (Memref.isWhole_whole _) wM (Memref.isWhole_whole _) oM (Memref.isWhole_whole _) (Memref.whole cc0_scratch0) (Memref.isWhole_whole _)
                (Memref.whole cc0_scratch1) (Memref.isWhole_whole _) cc0_scratch2 cc0_scratch3 cc0_scratch4 cc0_scratch5 c v100 v103 v108 v113 cst) Q) := by
  rw [k0_part5_eq_skeleton]; unfold k0_part5_skel
  simp only [semSignalWord, semWaitWord, Prog.lift, Prog.bind_op, Prog.bind_ret, Prog.pure_eq_ret, Prog.bind_assoc, wp_deviceId]
  iintro #HR #Hlev Ho Hv Hw Hk
  iapply (wp_out_load m ρ c) $$ Ho; iintro %_ Ho
  iapply (wp_hop_store m ρ c false 1 (by decide) R (off_false c 0) hv) $$ Ho; iintro Ho
  iapply (wp_load_slot c true 0 fullShare.right (carry m ρ true 1 c)) $$ Hv; iintro Hv
  iapply (wp_w_load c) $$ Hw; iintro Hw
  iapply (wp_out_load m ρ c) $$ Ho; iintro %_ Ho
  iapply (wp_hop_store m ρ c true 1 (by decide) _ (off_true c 0) ((pay7_eq _ _).trans (pay_slot true 0 _ _))) $$ Ho; iintro Ho
  rw [wp_ret]; imodintro
  iapply Hk
  iframe

/-- The second hop over: both slots `1` filled. -/
theorem part6 (v5 v7 : BitVec 32) {Q : PUnit → sProp 𝕄} :
    records m ρ K
      ⊢ iprop(levAts L lv
          -∗ coming (F := F) c (false, false, 1)
          -∗ coming (F := F) c (true, false, 1)
          -∗ coming (F := F) c (false, true, 1)
          -∗ coming (F := F) c (true, true, 1)
          -∗ owing (F := F) c (owedHops c 1)
          -∗ ((held c (srcM false 1) fullShare.left (carry m ρ false 1 c)
              ∗ semVal (cell c (some (false, false, 1))) 0
              ∗ held c (slotM false 1) fullShare (carry m ρ false 2 c)
              ∗ semVal (cell c (some (true, false, 1))) 0
              ∗ held c (srcM true 1) fullShare.left (carry m ρ true 1 c)
              ∗ semVal (cell c (some (false, true, 1))) 0
              ∗ held c (slotM true 1) fullShare (carry m ρ true 2 c)
              ∗ semVal (cell c (some (true, true, 1))) 0
              ∗ owing (F := F) c (owedHops c 1)) -∗ Q ⟨⟩)
          -∗ wp frame (wpE (defs₀ (F := F)) 𝒱₀ (c : Thread nD τ) none) Set.univ
              (k0_part6 xM (Memref.isWhole_whole _) wM (Memref.isWhole_whole _) oM (Memref.isWhole_whole _) (Memref.whole cc0_scratch0) (Memref.isWhole_whole _)
                (Memref.whole cc0_scratch1) (Memref.isWhole_whole _) cc0_scratch2 cc0_scratch3 cc0_scratch4 cc0_scratch5 v5 v7) Q) := by
  rw [k0_part6_eq_skeleton]; unfold k0_part6_skel
  simp only [semSignalWord, semWaitWord, Prog.lift, Prog.bind_op, Prog.bind_ret, Prog.pure_eq_ret, Prog.bind_assoc, wp_deviceId]
  iintro #HR #Hlev Hcff Hctf Hcft Hctt HO Hk
  iapply (wp_sent m ρ K c false 1 1 rfl 1 (by decide) rfl (slot_credit false 0)) $$ HR Hlev Hcff HO
  iintro ⟨Hsff, Hzff, HO⟩
  iapply (wp_landed m ρ K c false 1 2 rfl 1 (by decide) rfl (slot_credit false 1)) $$ HR Hlev Hctf HO
  iintro ⟨Hstf, Hztf, HO⟩
  iapply (wp_sent m ρ K c true 1 1 rfl 1 (by decide) rfl (slot_credit true 0)) $$ HR Hlev Hcft HO
  iintro ⟨Hsft, Hzft, HO⟩
  iapply (wp_landed m ρ K c true 1 2 rfl 1 (by decide) rfl (slot_credit true 1)) $$ HR Hlev Hctt HO
  iintro ⟨Hstt, Hztt, HO⟩
  rw [wp_ret]; imodintro
  iapply Hk
  iframe

/-- The third hop's copies under way, the clockwise slot `1` loaded. -/
theorem part7 (v2 v5 v7 : BitVec 32) {Q : (Σ' (v196 : BitVec 32) (v198 : FVec F S512x4096 .bf16) (v199 : BitVec 32), FVec F S4096x512 .bf16) → sProp 𝕄} :
    records m ρ K
      ⊢ iprop(levAts L lv
          -∗ leaving (F := F) c false 2
          -∗ held c (srcM false 2) fullShare.left (carry m ρ false 2 c)
          -∗ room (F := F) false 2 (peer false c)
          -∗ leaving (F := F) c true 2
          -∗ held c (srcM true 2) fullShare.left (carry m ρ true 2 c)
          -∗ room (F := F) true 2 (peer true c)
          -∗ owing (F := F) c (owedHops c 1)
          -∗ held c (slotM false 1) fullShare.right (carry m ρ false 2 c)
          -∗ (((c : Thread nD τ).loc cc0_stg1_0) ↦{fullShare} wstg m ρ c)
          -∗ (∀ v196 v199, (coming (F := F) c (false, false, 2)
              ∗ coming (F := F) c (false, true, 2)
              ∗ owing (F := F) c (owedHops c 0)
              ∗ held c (slotM false 1) fullShare.right (carry m ρ false 2 c)
              ∗ (((c : Thread nD τ).loc cc0_stg1_0) ↦{fullShare} wstg m ρ c)) -∗ Q ⟨v196, k0_pay8 (slotVal false 1 (carry m ρ false 2 c)), v199, k0_pay9 (wstg m ρ c)⟩)
          -∗ wp frame (wpE (defs₀ (F := F)) 𝒱₀ (c : Thread nD τ) none) Set.univ
              (k0_part7 xM (Memref.isWhole_whole _) wM (Memref.isWhole_whole _) oM (Memref.isWhole_whole _) (Memref.whole cc0_scratch0) (Memref.isWhole_whole _)
                (Memref.whole cc0_scratch1) (Memref.isWhole_whole _) cc0_scratch2 cc0_scratch3 cc0_scratch4 cc0_scratch5 c v2 v5 v7) Q) := by
  rw [k0_part7_eq_skeleton]; unfold k0_part7_skel
  simp only [semSignalWord, semWaitWord, Prog.lift, Prog.bind_op, Prog.bind_ret, Prog.pure_eq_ret, Prog.bind_assoc, wp_deviceId]
  iintro #HR #Hlev Hl1 Hs1 Hr1 Hl2 Hs2 Hr2 HO Hv Hw Hk
  rw [hops_one]
  iapply (wp_copy m ρ K c false 2 2 rfl _ (dev7_eq c) (owedHops c 0 + due c true 2) rfl rfl rfl rfl) $$ HR Hl1 Hs1 Hr1 HO
  iintro ⟨Hc1, HO⟩
  iapply (wp_copy m ρ K c true 2 2 rfl _ (dev8_eq c) (owedHops c 0) rfl rfl rfl rfl) $$ HR Hl2 Hs2 Hr2 HO
  iintro ⟨Hc2, HO⟩
  iapply (wp_load_slot c false 1 fullShare.right (carry m ρ false 2 c)) $$ Hv; iintro Hv
  iapply (wp_w_load c) $$ Hw; iintro Hw
  rw [wp_ret]; imodintro
  iapply Hk
  iframe

/-- The two half bands of the slots `1` stored. -/
theorem part8 (v196 v199 : BitVec 32) (v198 : FVec F S512x4096 .bf16) (v201 : FVec F S4096x512 .bf16) (R : ℕ → Prop)
    (hv : k0_pay10 v198 v201 = k0_pay1 (carry m ρ false 2 c) (wstg m ρ c)) {Q : PUnit → sProp 𝕄} :
    records m ρ K
      ⊢ iprop(levAts L lv
          -∗ outHas m ρ c R
          -∗ held c (slotM true 1) fullShare.right (carry m ρ true 2 c)
          -∗ (((c : Thread nD τ).loc cc0_stg1_0) ↦{fullShare} wstg m ρ c)
          -∗ ((outHas m ρ c (fun i => (R i ∨ hopRows c false 2 i) ∨ hopRows c true 2 i)
              ∗ held c (slotM true 1) fullShare.right (carry m ρ true 2 c)
              ∗ (((c : Thread nD τ).loc cc0_stg1_0) ↦{fullShare} wstg m ρ c)) -∗ Q ⟨⟩)
          -∗ wp frame (wpE (defs₀ (F := F)) 𝒱₀ (c : Thread nD τ) none) Set.univ
              (k0_part8 xM (Memref.isWhole_whole _) wM (Memref.isWhole_whole _) oM (Memref.isWhole_whole _) (Memref.whole cc0_scratch0) (Memref.isWhole_whole _)
                (Memref.whole cc0_scratch1) (Memref.isWhole_whole _) cc0_scratch2 cc0_scratch3 cc0_scratch4 cc0_scratch5 c v196 v198 v199 v201) Q) := by
  rw [k0_part8_eq_skeleton]; unfold k0_part8_skel
  simp only [semSignalWord, semWaitWord, Prog.lift, Prog.bind_op, Prog.bind_ret, Prog.pure_eq_ret, Prog.bind_assoc, wp_deviceId]
  iintro #HR #Hlev Ho Hv Hw Hk
  iapply (wp_out_load m ρ c) $$ Ho; iintro %_ Ho
  iapply (wp_hop_store m ρ c false 2 (by decide) R (off_false c 1) hv) $$ Ho; iintro Ho
  iapply (wp_load_slot c true 1 fullShare.right (carry m ρ true 2 c)) $$ Hv; iintro Hv
  iapply (wp_w_load c) $$ Hw; iintro Hw
  iapply (wp_out_load m ρ c) $$ Ho; iintro %_ Ho
  iapply (wp_hop_store m ρ c true 2 (by decide) _ (off_true c 1) ((pay11_eq _ _).trans (pay_slot true 1 _ _))) $$ Ho; iintro Ho
  rw [wp_ret]; imodintro
  iapply Hk
  iframe

/-- The third hop over but for the last arrival. -/
theorem part9 (v5 v7 : BitVec 32) {Q : PUnit → sProp 𝕄} :
    records m ρ K
      ⊢ iprop(levAts L lv
          -∗ coming (F := F) c (false, false, 2)
          -∗ coming (F := F) c (true, false, 2)
          -∗ coming (F := F) c (false, true, 2)
          -∗ owing (F := F) c (owedHops c 0)
          -∗ ((held c (srcM false 2) fullShare.left (carry m ρ false 2 c)
              ∗ semVal (cell c (some (false, false, 2))) 0
              ∗ held c (slotM false 2) fullShare (carry m ρ false 3 c)
              ∗ semVal (cell c (some (true, false, 2))) 0
              ∗ held c (srcM true 2) fullShare.left (carry m ρ true 2 c)
              ∗ semVal (cell c (some (false, true, 2))) 0
              ∗ owing (F := F) c (owedHops c 0)) -∗ Q ⟨⟩)
          -∗ wp frame (wpE (defs₀ (F := F)) 𝒱₀ (c : Thread nD τ) none) Set.univ
              (k0_part9 xM (Memref.isWhole_whole _) wM (Memref.isWhole_whole _) oM (Memref.isWhole_whole _) (Memref.whole cc0_scratch0) (Memref.isWhole_whole _)
                (Memref.whole cc0_scratch1) (Memref.isWhole_whole _) cc0_scratch2 cc0_scratch3 cc0_scratch4 cc0_scratch5 v5 v7) Q) := by
  rw [k0_part9_eq_skeleton]; unfold k0_part9_skel
  simp only [semSignalWord, semWaitWord, Prog.lift, Prog.bind_op, Prog.bind_ret, Prog.pure_eq_ret, Prog.bind_assoc, wp_deviceId]
  iintro #HR #Hlev Hcff Hctf Hcft HO Hk
  iapply (wp_sent m ρ K c false 2 2 rfl 0 (by decide) rfl (slot_credit false 1)) $$ HR Hlev Hcff HO
  iintro ⟨Hsff, Hzff, HO⟩
  iapply (wp_landed m ρ K c false 2 3 rfl 0 (by decide) rfl (slot_credit false 2)) $$ HR Hlev Hctf HO
  iintro ⟨Hstf, Hztf, HO⟩
  iapply (wp_sent m ρ K c true 2 2 rfl 0 (by decide) rfl (slot_credit true 1)) $$ HR Hlev Hcft HO
  iintro ⟨Hsft, Hzft, HO⟩
  rw [wp_ret]; imodintro
  iapply Hk
  iframe

/-- The last arrival, and the clockwise half band of the slot `2` stored; the other slot `2` loaded. -/
theorem part10 (v2 : BitVec 32) (R : ℕ → Prop) {Q : (Σ' (v295 : FVec F S512x4096 .bf16), BitVec 32) → sProp 𝕄} :
    records m ρ K
      ⊢ iprop(levAts L lv
          -∗ coming (F := F) c (true, true, 2)
          -∗ owing (F := F) c (owedHops c 0)
          -∗ held c (slotM false 2) fullShare (carry m ρ false 3 c)
          -∗ (((c : Thread nD τ).loc cc0_stg1_0) ↦{fullShare} wstg m ρ c)
          -∗ outHas m ρ c R
          -∗ (∀ v296, (held c (slotM true 2) fullShare (carry m ρ true 3 c)
              ∗ semVal (cell c (some (true, true, 2))) 0
              ∗ owing (F := F) c (owedHops c 0)
              ∗ held c (slotM false 2) fullShare (carry m ρ false 3 c)
              ∗ (((c : Thread nD τ).loc cc0_stg1_0) ↦{fullShare} wstg m ρ c)
              ∗ outHas m ρ c (fun i => R i ∨ hopRows c false 3 i)) -∗ Q ⟨k0_pay13 (slotVal true 2 (carry m ρ true 3 c)), v296⟩)
          -∗ wp frame (wpE (defs₀ (F := F)) 𝒱₀ (c : Thread nD τ) none) Set.univ
              (k0_part10 xM (Memref.isWhole_whole _) wM (Memref.isWhole_whole _) oM (Memref.isWhole_whole _) (Memref.whole cc0_scratch0) (Memref.isWhole_whole _)
                (Memref.whole cc0_scratch1) (Memref.isWhole_whole _) cc0_scratch2 cc0_scratch3 cc0_scratch4 cc0_scratch5 c v2) Q) := by
  rw [k0_part10_eq_skeleton]; unfold k0_part10_skel
  simp only [semSignalWord, semWaitWord, Prog.lift, Prog.bind_op, Prog.bind_ret, Prog.pure_eq_ret, Prog.bind_assoc, wp_deviceId]
  iintro #HR #Hlev Hc HO Hv Hw Ho Hk
  iapply (wp_landed m ρ K c true 2 3 rfl 0 (by decide) rfl (slot_credit true 2)) $$ HR Hlev Hc HO
  iintro ⟨Hs, Hz, HO⟩
  iapply (wp_load_slot c false 2 fullShare (carry m ρ false 3 c)) $$ Hv; iintro Hv
  iapply (wp_w_load c) $$ Hw; iintro Hw
  iapply (wp_out_load m ρ c) $$ Ho; iintro %_ Ho
  iapply (wp_hop_store m ρ c false 3 (by decide) R (off_false c 2) ((pay12_eq _ _).trans (pay_slot false 2 _ _))) $$ Ho; iintro Ho
  iapply (wp_load_slot c true 2 fullShare (carry m ρ true 3 c)) $$ Hs; iintro Hs
  rw [wp_ret]; imodintro
  iapply Hk
  iframe

end Cert.KernelIdeal.Gather

end
-- ==== Proof.Ideal.Body.lean ====
/-
# A device's whole run

What the pipeline's one point starts from and leaves, and the body's run between them: the ten parts one after another.
-/
module

public import proofs.«01_k».proof.Proof.Ideal.Parts

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What a device starts its links and its barrier with: its positions and the duties it pays. -/
def kit (c : Dev nD) : sProp 𝕄 :=
  iprop(atPos ER (cell c none) 0 ∅ 0 ∗ dutyTok ER (cell (peer true c) none) 0 false ∗ dutyTok ER (cell (peer false c) none) 0 true
    ∗ bigSep Finset.univ fun x : Bool × Fin 3 => iprop(leaving (F := F) c x.1 x.2 ∗ atPos ER (cell c (some (true, x))) 0 ∅ 0))

/-- The credits it waits with: its barrier's and its arriving ends'. -/
def credits (c : Dev nD) : sProp 𝕄 :=
  iprop(cred (tallyAt (cell c none) () 2) ∗ bigSep Finset.univ fun x : Bool × Fin 3 => cred (tallyAt (cell c (some (true, x))) () N))

/-- What a device starts the kernel with. -/
def start (c : Dev nD) : sProp 𝕄 := iprop((∃ K, records m ρ K ∗ kit (F := F) c) ∗ credits (F := F) c ∗ levAts L lv)

/-- Before the point: that, and the landing buffers of both directions. -/
def Φ₀ (c : Dev nD) : sProp 𝕄 := iprop(start m ρ c ∗ landing (F := F) false c ∗ landing (F := F) true c)

/-- After the point: the landing buffers, and every cell done. -/
def Φ₁ (c : Dev nD) : sProp 𝕄 :=
  iprop(landing (F := F) false c ∗ landing (F := F) true c ∗ semVal (cell c none) 0
    ∗ bigSep Finset.univ fun x : Bool × Bool × Fin 3 => semVal (cell c (some x)) 0)

/-- The pipeline has one point, -/
theorem N_one : cfg0.N = 1 := by decide
/-- this one, -/
def t₀ : Fin cfg0.N := ⟨0, by rw [N_one]; decide⟩
/-- and no other. -/
theorem point_eq (t : Fin cfg0.N) : t = t₀ := by
  obtain ⟨t, ht⟩ := t; have := N_one; exact Fin.ext (by simp only [t₀]; omega)

/-- What the pipeline moves: the arguments staged, the result to be flushed, and what the body holds and owes around its point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owedAll c
    | ⟨_ + 1, _⟩ => 0

/-- The three windows, one by one. -/
theorem bigSep_W (Φ : Fin cfg0.W → sProp 𝕄) : bigSep Finset.univ Φ = iprop(Φ (0 : Fin 3) ∗ Φ (1 : Fin 3) ∗ Φ (2 : Fin 3)) := bigSep_W0 Φ

/-- The activations are fetched at the point, -/
theorem fetch_x (t : Fin cfg0.N) : (cfg0.win (0 : Fin 3)).fetch t = true := by rw [point_eq t]; rfl
/-- and so are the weights. -/
theorem fetch_w (t : Fin cfg0.N) : (cfg0.win (1 : Fin 3)).fetch t = true := by rw [point_eq t]; rfl

/-- A staging buffer with its contents. -/
abbrev staged (c : Dev nD) (b : Ref sig .tc) (X : Buf (Elt F) ((c : Thread nD τ).loc b)) : sProp 𝕄 := iprop(((c : Thread nD τ).loc b) ↦{fullShare} X)

/-- To own a buffer seen whole, at some contents, is to hold it with them. -/
theorem owns_staged (c : Dev nD) (b : Ref sig .tc) (X : b.ty.Contents (Elt F)) :
    owns (c : Thread nD τ) (Memref.whole b) fullShare X = staged (F := F) c b X := by
  have fwd : iprop(∃ f : Buf (Elt F) ((c : Thread nD τ).loc b), ⌜f = X⌝ ∗ (((c : Thread nD τ).loc b) ↦{fullShare} f)) ⊢ staged (F := F) c b X := by
    iintro ⟨%f, %h, H⟩
    rw [← h]
    iexact H
  have back : staged (F := F) c b X ⊢ iprop(∃ f : Buf (Elt F) ((c : Thread nD τ).loc b), ⌜f = X⌝ ∗ (((c : Thread nD τ).loc b) ↦{fullShare} f)) := by
    iintro H
    iexists X
    isplitr; · ipureintro; rfl
    iexact H
  simp only [owns, Memref.view_whole, View.read_whole, View.set_whole]
  exact BI.Entails.antisymm fwd back

/-! ## The body -/

/-- What the body starts from. -/
def bodyPre (c : Dev nD) : sProp 𝕄 :=
  iprop(Φ₀ m ρ c ∗ (dats m ρ 0 c).owesAt () t₀.castSucc
    ∗ (∃ d, staged c cc0_stg0_0 ((dats m ρ 0 c).before (0 : Fin 3) t₀ d))
    ∗ (∃ d, staged c cc0_stg1_0 ((dats m ρ 0 c).before (1 : Fin 3) t₀ d))
    ∗ (∃ d, staged c cc0_stg2_0 ((dats m ρ 0 c).before (2 : Fin 3) t₀ d)))

/-- What the body leaves. -/
def bodyPost (c : Dev nD) : sProp 𝕄 :=
  iprop(Φ₁ c ∗ (dats m ρ 0 c).owesAt () t₀.succ ∗ staged c cc0_stg0_0 (xstg m ρ c) ∗ staged c cc0_stg1_0 (wstg m ρ c) ∗ staged c cc0_stg2_0 (outAt m ρ c))

/-- The six links, one by one. -/
theorem links_six (Φ : Bool × Fin 3 → sProp 𝕄) : bigSep Finset.univ Φ
    = iprop(Φ (false, 0) ∗ Φ (false, 1) ∗ Φ (false, 2) ∗ Φ (true, 0) ∗ Φ (true, 1) ∗ Φ (true, 2)) :=
  bigSep_univ_eq_bigSepL [(false, 0), (false, 1), (false, 2), (true, 0), (true, 1), (true, 2)] (by decide) (by decide) Φ

/-- The links' ends: all departing ones, and all arriving ones. -/
theorem ends_two (Φ : Bool × Bool × Fin 3 → sProp 𝕄) : bigSep Finset.univ Φ
    = iprop((bigSep Finset.univ fun x => Φ (false, x)) ∗ bigSep Finset.univ fun x => Φ (true, x)) := by
  rw [bigSep_univ_prod, bigSep_univ_eq_bigSepL [false, true] (by decide) (by decide)]; rfl

/-- A slot a hop forwards: half of it in transit, half of it to be read. -/
theorem slot_lend (c : Dev nD) (d : Bool) (h h' : Fin 3) (hs : srcM d h' = slotM d h) (X : S512x4096.Idx → Elt F .bf16) :
    held c (slotM d h) fullShare X ⊣⊢ iprop(held c (srcM d h') fullShare.left X ∗ held c (slotM d h) fullShare.right X) := by
  rw [hs]; exact slot_share c d h X

/-- The three slots of a direction, all arrived, are its landing buffer again. -/
theorem landing_back (d : Bool) (c : Dev nD) :
    iprop(held c (slotM d 0) fullShare (carry m ρ d 1 c) ∗ held c (slotM d 1) fullShare (carry m ρ d 2 c)
      ∗ held c (slotM d 2) fullShare (carry m ρ d 3 c)) ⊢ landing (F := F) d c :=
  landing_join (F := F) d c fun h => carry m ρ d (h.val + 1) c

/-- All rows stored, the buffer is the result. -/
theorem out_done (c : Dev nD) :
    outHas m ρ c (fun i => ((((((False ∨ (1024 * c.val ≤ i ∧ i < 1024 * c.val + 1024)) ∨ hopRows c false 1 i) ∨ hopRows c true 1 i) ∨ hopRows c false 2 i)
      ∨ hopRows c true 2 i) ∨ hopRows c false 3 i) ∨ hopRows c true 3 i) ⊢ staged c cc0_stg2_0 (outAt m ρ c) := by
  unfold outHas
  iintro ⟨%f, %hf, H⟩
  rw [← show f = outAt m ρ c from funext fun y => hf y (rows_all c _ (y 0).isLt)]
  iexact H

/-- At the start no row of the result is final. -/
theorem out_begin (c : Dev nD) (f : S4096x512.Idx → Elt F .f32) :
    ((((c : Thread nD τ).loc cc0_stg2_0) ↦{fullShare} f) : sProp 𝕄) ⊢ outHas m ρ c (fun _ => False) := by
  unfold outHas
  iintro H
  iexists f
  isplitr
  · ipureintro; exact fun y hy => hy.elim
  · iexact H

set_option maxHeartbeats 1600000 in
/-- The body, from what the point starts from to what it leaves. -/
theorem sound_body (c : Dev nD) :
    bodyPre m ρ c ⊢ wp frame (wpE (defs₀ (F := F)) 𝒱₀ (c : Thread nD τ) none) Set.univ
      (cc0_body xM (Memref.isWhole_whole _) wM (Memref.isWhole_whole _) oM (Memref.isWhole_whole _) (Memref.whole cc0_scratch0) (Memref.isWhole_whole _)
        (Memref.whole cc0_scratch1) (Memref.isWhole_whole _) cc0_scratch2 cc0_scratch3 cc0_scratch4 cc0_scratch5) (fun _ => bodyPost m ρ c) := by
  rw [cc0_body_eq_skeleton]; unfold cc0_body_skel
  rw [wp_bind]
  unfold bodyPre Φ₀ start kit credits
  rw [links_six, links_six]
  iintro ⟨⟨⟨⟨%K, #HR, Hat, Ht1, Ht2, ⟨Hlf0, Hpf0⟩, ⟨Hlf1, Hpf1⟩, ⟨Hlf2, Hpf2⟩, ⟨Hlt0, Hpt0⟩, ⟨Hlt1, Hpt1⟩, Hlt2, Hpt2⟩,
      ⟨Hcb, Hcf0, Hcf1, Hcf2, Hct0, Hct1, Hct2⟩, #Hlev⟩, Hland0, Hland1⟩,
    Ho, ⟨%d0, Hx⟩, ⟨%d1, Hw⟩, ⟨%d2, Hout⟩⟩
  rw [show (dats m ρ 0 c).before (0 : Fin 3) t₀ d0 = xstg m ρ c from if_pos (fetch_x t₀),
    show (dats m ρ 0 c).before (1 : Fin 3) t₀ d1 = wstg m ρ c from if_pos (fetch_w t₀)]
  unfold Dat.owesAt Pipeline.owesWithin
  icases Ho with ⟨%W, %hW, HO⟩
  rw [show (dats m ρ 0 c).owed t₀.castSucc = owedAll c from rfl]
  ihave HO : owing (F := F) c (owedAll c) $$ [HO]
  · unfold owing; iexists W; iexact HO
  ihave Hout := (out_begin m ρ c _) $$ Hout
  ihave Hr0 := (landing_cut (F := F) false c) $$ Hland0
  ihave Hr1 := (landing_cut (F := F) true c) $$ Hland1
  ihave Hx := (own_block m ρ c).1 $$ Hx
  icases Hx with ⟨⟨Hxf, Hxt⟩, Hx⟩
  iapply (part1 m ρ K c) $$ HR Hlev Ht1 Ht2 Hr0 Hr1 Hat Hcb Hlf0 Hxf HO
  iintro %v2 %v5 %v7 ⟨Hrf1, Hrf2, Hrt, Hzb, Hsf0, HO⟩
  unfold rooms
  icases Hrt with ⟨Hrt0, Hrt1, Hrt2⟩
  rw [wp_bind]
  iapply (part2 m ρ K c v2) $$ HR Hlev Hlt0 Hxt Hrt0 HO Hx Hw Hout Hsf0
  iintro ⟨Hst0, Hx, Hw, Hout, Hxf, Hzf0, HO⟩
  rw [wp_bind]
  iapply (part3 m ρ K c v5 v7) $$ HR Hlev [Hpf0 Hcf0] Hst0 [Hpt0 Hct0] HO
  · unfold coming; iframe
  · unfold coming; iframe
  iintro ⟨Hf0, Hyf0, Hxt, Hzt0, Ht0, Hyt0, HO⟩
  ihave Hx := (own_block m ρ c).2 $$ [Hx Hxf Hxt]
  · iframe
  ihave Hf0 := (slot_lend c false 0 1 rfl (carry m ρ false 1 c)).1 $$ Hf0
  icases Hf0 with ⟨Hf0l, Hf0⟩
  ihave Ht0 := (slot_lend c true 0 1 rfl (carry m ρ true 1 c)).1 $$ Ht0
  icases Ht0 with ⟨Ht0l, Ht0⟩
  rw [wp_bind]
  iapply (part4 m ρ K c v2 v5) $$ HR Hlev Hlf1 Hf0l Hrf1 Hlt1 Ht0l Hrt1 HO Hf0 Hw
  iintro %v100 %v103 ⟨Hsf1, Hst1, HO, Hf0, Hw⟩
  rw [wp_bind]
  iapply (part5 m ρ K c v100 v103 _ _ _ _ ((pay6_eq _ _).trans (pay_slot false 0 _ _))) $$ HR Hlev Hout Ht0 Hw
  iintro ⟨Hout, Ht0, Hw⟩
  rw [wp_bind]
  iapply (part6 m ρ K c v5 v7) $$ HR Hlev Hsf1 [Hpf1 Hcf1] Hst1 [Hpt1 Hct1] HO
  · unfold coming; iframe
  · unfold coming; iframe
  iintro ⟨Hf0l, Hzf1, Hf1, Hyf1, Ht0l, Hzt1, Ht1, Hyt1, HO⟩
  ihave Hf0 := (slot_lend c false 0 1 rfl (carry m ρ false 1 c)).2 $$ [Hf0l Hf0]
  · iframe
  ihave Ht0 := (slot_lend c true 0 1 rfl (carry m ρ true 1 c)).2 $$ [Ht0l Ht0]
  · iframe
  ihave Hf1 := (slot_lend c false 1 2 rfl (carry m ρ false 2 c)).1 $$ Hf1
  icases Hf1 with ⟨Hf1l, Hf1⟩
  ihave Ht1 := (slot_lend c true 1 2 rfl (carry m ρ true 2 c)).1 $$ Ht1
  icases Ht1 with ⟨Ht1l, Ht1⟩
  rw [wp_bind]
  iapply (part7 m ρ K c v2 v5 v7) $$ HR Hlev Hlf2 Hf1l Hrf2 Hlt2 Ht1l Hrt2 HO Hf1 Hw
  iintro %v196 %v199 ⟨Hsf2, Hst2, HO, Hf1, Hw⟩
  rw [wp_bind]
  iapply (part8 m ρ K c v196 v199 _ _ _ ((pay10_eq _ _).trans (pay_slot false 1 _ _))) $$ HR Hlev Hout Ht1 Hw
  iintro ⟨Hout, Ht1, Hw⟩
  rw [wp_bind]
  iapply (part9 m ρ K c v5 v7) $$ HR Hlev Hsf2 [Hpf2 Hcf2] Hst2 HO
  · unfold coming; iframe
  iintro ⟨Hf1l, Hzf2, Hf2, Hyf2, Ht1l, Hzt2, HO⟩
  ihave Hf1 := (slot_lend c false 1 2 rfl (carry m ρ false 2 c)).2 $$ [Hf1l Hf1]
  · iframe
  ihave Ht1 := (slot_lend c true 1 2 rfl (carry m ρ true 2 c)).2 $$ [Ht1l Ht1]
  · iframe
  rw [wp_bind]
  iapply (part10 m ρ K c v2) $$ HR Hlev [Hpt2 Hct2] HO Hf2 Hw Hout
  · unfold coming; iframe
  iintro %v296 ⟨Ht2, Hyt2, HO, Hf2, Hw, Hout⟩
  simp only [Prog.lift, Prog.bind_op, Prog.bind_ret, Prog.pure_eq_ret, Prog.bind_assoc]
  iapply (wp_w_load c) $$ Hw; iintro Hw
  iapply (wp_out_load m ρ c) $$ Hout; iintro %_ Hout
  iapply (wp_hop_store m ρ c true 3 (by decide) _ (off_true c 2) (pay_slot true 2 _ _)) $$ Hout; iintro Hout
  rw [wp_ret]; imodintro
  unfold bodyPost Φ₁ Dat.owesAt Pipeline.owesWithin
  rw [show (dats m ρ 0 c).owed t₀.succ = 0 from rfl, ends_two, links_six, links_six]
  isplitl [Hf0 Hf1 Hf2 Ht0 Ht1 Ht2 Hzb Hzf0 Hzf1 Hzf2 Hzt0 Hzt1 Hzt2 Hyf0 Hyf1 Hyf2 Hyt0 Hyt1 Hyt2]
  · isplitl [Hf0 Hf1 Hf2]
    · iapply (landing_back m ρ false c); iframe
    isplitl [Ht0 Ht1 Ht2]
    · iapply (landing_back m ρ true c); iframe
    iframe
  isplitl [HO]
  · unfold owing
    icases HO with ⟨%W', HO⟩
    iexists W'
    isplitr; · ipureintro; exact fun _ _ => Or.inl trivial
    iexact HO
  isplitl [Hx]; · iexact Hx
  isplitl [Hw]; · iexact Hw
  iapply (out_done m ρ c); iexact Hout

set_option maxRecDepth 4000 in
/-- The pipeline's obligation for its body on device `c`. -/
theorem body_obligation (c : Dev nD) : BodyObligation (dats (F := F) m ρ 0 c) (defs₀ (F := F)) 𝒱₀ () Set.univ := fun t => by
  rw [point_eq t]
  rw [bigSep_W, bigSep_W]
  simp only [owns_staged]
  exact sound_body m ρ c

end Cert.KernelIdeal.Gather

end
-- ==== Proof.Ideal.Launch.lean ====
/-
# The launch

The cells' ghost state as minted and as dealt to the devices, the credits each waits with, and the whole run: every
execution ends, every device's result array at `outAt`, its arguments unchanged, every counter at zero.
-/
module

public import proofs.«01_k».proof.Proof.Ideal.Body
public import Idealize.ShloMosaic.Lib.Pipeline.CollectiveSegs

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is minted -/

/-- The kernel's own scoped semaphores: the ends of the links. -/
abbrev osem (l : Bool × Bool × Fin 3) : SemLoc sig := semOf (some l)

/-- They are distinct, scoped, and none of the pipeline's. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- Cells of different devices, or of different ends, differ. -/
theorem cellAt_injective : Function.Injective (cellAt : Dev nD × CI → GSem nD τ sig) := by
  rintro ⟨c, i⟩ ⟨c', i'⟩ h
  have h1 : c = c' := congrArg (fun g : GSem nD τ sig => g.1.1) h
  have h2 : role (semOf i) = role (semOf i') := congrArg (fun g : GSem nD τ sig => role g.2) h
  rw [role_semOf, role_semOf] at h2
  rw [h1, Option.some.inj h2]

/-- All cells. -/
def ringCells : Finset (GSem nD τ sig) := Finset.univ.map ⟨cellAt, cellAt_injective⟩

/-- A token for each duty name of each cell; a link's cells have one duty, their second token is never used. -/
abbrev tokAt (x : Dev nD × CI × Bool) : GSem nD τ sig × ℕ × Bool := (cellAt (x.1, x.2.1), 0, x.2.2)
/-- Different duties have different tokens. -/
theorem tokAt_injective : Function.Injective tokAt := by
  rintro ⟨c, i, b⟩ ⟨c', i', b'⟩ h
  have h1 := cellAt_injective (congrArg Prod.fst h)
  have h2 : b = b' := congrArg (fun x : GSem nD τ sig × ℕ × Bool => x.2.2) h
  simp only [Prod.mk.injEq] at h1 ⊢
  exact ⟨h1.1, h1.2, h2⟩

/-- All tokens. -/
def ringToks : Finset (GSem nD τ sig × ℕ × Bool) := Finset.univ.map ⟨tokAt, tokAt_injective⟩

/-- The ghost state minted at the launch: the pipeline's and the ring's. -/
def u₀ : UU := (initOf (Pipeline.cells cfgs cellOf_inj) (Pipeline.launchToks cfgs cellOf_inj), initOf ringCells ringToks)

/-- A device's cells as minted. -/
def G (c : Dev nD) : sProp 𝕄 :=
  iprop((bigSep Finset.univ fun i : CI => roundState ER (ringRd m ρ) (cell c i) 0)
    ∗ (bigSep Finset.univ fun i : CI => atPos ER (cell c i) 0 ∅ 0)
    ∗ (bigSep Finset.univ fun i : CI => reached ER (cell c i) 0)
    ∗ bigSep Finset.univ fun x : CI × Bool => dutyTok ER (cell c x.1) 0 x.2)

/-- What a device has when every cell's invariant stands. -/
def G' (c : Dev nD) : sProp 𝕄 := iprop(∃ K, records m ρ K ∗ kit (F := F) c)

/-- The ring's part of it, dealt out by device. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : CI => Φ (cell c i) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun x : CI × Bool => dutyTok ER (cell c x.1) 0 x.2 := by
    unfold ringToks; rw [bigSep_map, bigSep_univ_prod]; rfl
  iintro HX
  imod (Rounds.fund ER (ringRd m ρ) ringCells ringToks) $$ HX with ⟨Hst, Hr, Hat, Htok⟩
  imodintro
  ihave Hst := (Entails.of_eq (hX fun g => roundState ER (ringRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe

/-! ## The cells' invariants, and the tokens dealt to their payers -/

/-- A device's cells: the barrier's, and the ends of the links. -/
theorem cells_split (Φ : CI → sProp 𝕄) : bigSep Finset.univ Φ = iprop(Φ none ∗ bigSep Finset.univ fun l => Φ (some l)) := by
  have swap (A B : sProp 𝕄) : iprop(A ∗ B) ⊢ iprop(B ∗ A) := by iintro ⟨HA, HB⟩; iframe
  rw [bigSep_univ_equiv (Equiv.optionEquivSumPUnit.{0} (Bool × Bool × Fin 3)).symm, bigSep_univ_sum,
    bigSep_univ_eq_bigSepL [PUnit.unit] (by decide) (by decide)]
  show iprop((bigSep Finset.univ fun l => Φ (some l)) ∗ Φ none) = _
  exact BI.Entails.antisymm (swap _ _) (swap _ _)

/-- The one counter that outlives the kernel is the barrier. -/
theorem unscoped_eq (c : Dev nD) : (unscopedSems0 c : sProp 𝕄) = semVal (cell c none) 0 := by
  unfold unscopedSems0; rw [bigSep_eq_bigSepL_of_eq [semOf none] (by decide) (by decide)]; rfl

/-- A device's counters, all at zero, by cell. -/
theorem sems_all (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (cell c i) 0 : sProp 𝕄) := by
  rw [cells_split, unscoped_eq]
  exact sep_comm.1

/-- A device's cells are opened: each gets its invariant, and the device its positions and tokens. -/
theorem cell_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (ringRd m ρ) κ (cell c i)))
          ∗ (bigSep Finset.univ fun i : CI => atPos ER (cell c i) 0 ∅ 0)
          ∗ (bigSep Finset.univ fun i : CI => reached ER (cell c i) 0)
          ∗ bigSep Finset.univ fun x : CI × Bool => dutyTok ER (cell c x.1) 0 x.2) := by
  unfold G
  iintro ⟨Hos, Hus, Hst, Hat, Hr, Htok⟩
  ihave Hv := (sems_all (F := F) c) $$ [Hos Hus]
  · iframe
  imod (show iprop((bigSep Finset.univ fun i : CI => semVal (cell c i) 0) ∗ bigSep Finset.univ fun i : CI => roundState ER (ringRd m ρ) (cell c i) 0)
      ⊢ (|={Set.univ}=> bigSep Finset.univ fun i : CI => iprop(∃ κ : ℕ, cellInv ER (ringRd m ρ) κ (cell c i)) : sProp 𝕄) from by
        rw [← bigSep_sep']
        exact (bigSep_mono fun i _ => (Rounds.body_intro ER (ringRd m ρ) (cell c i)).trans inv_alloc).trans (bigSep_fupd _ _)) $$ [Hv Hst] with Hinv
  · iframe
  imodintro
  iframe

/-- Whose cell a device pays a duty of: its neighbours' barriers and arriving ends, its own departing ends. -/
def payee : CI × Bool → (Dev nD ≃ Dev nD)
  | (none, b) => turn (!b)
  | (some l, _) => cond l.1 (turn l.2.1) (Equiv.refl _)

/-- A barrier duty named `b` is paid to the neighbour on the other side, -/
theorem payee_bar (b : Bool) (c : Dev nD) : payee (none, b) c = peer (!b) c := rfl
/-- a departing end's to the device itself, -/
theorem payee_out (x : Bool × Fin 3) (b : Bool) (c : Dev nD) : payee (some (false, x), b) c = c := rfl
/-- an arriving end's to the neighbour it is sent to. -/
theorem payee_in (x : Bool × Fin 3) (b : Bool) (c : Dev nD) : payee (some (true, x), b) c = peer x.1 c := rfl

/-- The tokens, minted by cell, dealt to the devices that pay with them. -/
theorem toks_dealt : (bigSep Finset.univ fun c : Dev nD => bigSep Finset.univ fun x : CI × Bool => (dutyTok ER (cell c x.1) 0 x.2 : sProp 𝕄))
    = bigSep Finset.univ fun c : Dev nD => bigSep Finset.univ fun x : CI × Bool => dutyTok ER (cell (payee x c) x.1) 0 x.2 := by
  rw [Idealize.SL.BI.bigSep_univ_comm, Idealize.SL.BI.bigSep_univ_comm (fun c x => dutyTok ER (cell (payee x c) x.1) 0 x.2)]
  exact bigSep_congr fun x _ => bigSep_univ_equiv (payee x) _

/-- The positions and the dealt tokens of a device are its kit; -/
theorem kit_intro (c : Dev nD) :
    iprop((bigSep Finset.univ fun i : CI => atPos ER (cell c i) 0 ∅ 0) ∗ bigSep Finset.univ fun x : CI × Bool => dutyTok ER (cell (payee x c) x.1) 0 x.2)
      ⊢ kit (F := F) c := by
  have two (Φ : Bool → sProp 𝕄) : bigSep Finset.univ Φ = iprop(Φ false ∗ Φ true) :=
    bigSep_univ_eq_bigSepL [false, true] (by decide) (by decide) Φ
  have one (f : Bool × Fin 3 → GSem nD τ sig) :
      (bigSep Finset.univ fun x : Bool × Fin 3 => bigSep Finset.univ fun b => (dutyTok ER (f x) 0 b : sProp 𝕄))
        ⊢ bigSep Finset.univ fun x : Bool × Fin 3 => dutyTok ER (f x) 0 false :=
    bigSep_mono fun x _ => bigSep_elim (Finset.mem_univ false)
  rw [cells_split, ends_two, bigSep_univ_prod (fun x : CI × Bool => (dutyTok ER (cell (payee x c) x.1) 0 x.2 : sProp 𝕄)), cells_split, ends_two, two]
  unfold kit leaving
  simp only [bigSep_sep', payee_bar, payee_out, payee_in, Bool.not_false, Bool.not_true]
  iintro ⟨⟨Hb, Hs, Hr⟩, ⟨Ht, Ht'⟩, Hts, Htr⟩
  ihave Hts := (one fun x => cell c (some (false, x))) $$ Hts
  ihave Htr := (one fun x => cell (peer x.1 c) (some (true, x))) $$ Htr
  isplitl [Hb]; · iexact Hb
  isplitl [Ht]; · iexact Ht
  isplitl [Ht']; · iexact Ht'
  isplitr [Hr]
  · isplitl [Hs]; · iexact Hs
    isplitl [Hts]; · iexact Hts
    iexact Htr
  · iexact Hr

/-- so on all devices. -/
theorem kits_intro :
    iprop((bigSep Finset.univ fun c : Dev nD => bigSep Finset.univ fun i : CI => atPos ER (cell c i) 0 ∅ 0)
      ∗ bigSep Finset.univ fun c : Dev nD => bigSep Finset.univ fun x : CI × Bool => dutyTok ER (cell (payee x c) x.1) 0 x.2)
      ⊢ (bigSep Finset.univ fun c : Dev nD => kit (F := F) c : sProp 𝕄) := by
  rw [← bigSep_sep']
  exact bigSep_mono fun c _ => kit_intro (F := F) c

/-- From cells opened one by one to what each device starts from: the names of all invariants agreed, the tokens dealt. -/
theorem regroup :
    (bigSep Finset.univ fun c : Dev nD => iprop((bigSep Finset.univ fun i : CI => iprop(∃ κ : ℕ, cellInv ER (ringRd m ρ) κ (cell c i)))
          ∗ (bigSep Finset.univ fun i : CI => atPos ER (cell c i) 0 ∅ 0)
          ∗ (bigSep Finset.univ fun i : CI => reached ER (cell c i) 0)
          ∗ bigSep Finset.univ fun x : CI × Bool => dutyTok ER (cell c x.1) 0 x.2) : sProp 𝕄)
      ⊢ bigSep Finset.univ (G' m ρ) := by
  rw [bigSep_sep', bigSep_sep', bigSep_sep', ← bigSep_univ_prod (fun x : Dev nD × CI => iprop(∃ κ : ℕ, cellInv ER (ringRd m ρ) κ (cellAt x))),
    ← bigSep_univ_prod (fun x : Dev nD × CI => (reached ER (cellAt x) 0 : sProp 𝕄)), toks_dealt]
  iintro ⟨HI, Hat, #HR, Htok⟩
  ihave HK := (BI.bigSep_exists_pi Finset.univ (fun (x : Dev nD × CI) (κ : ℕ) => (cellInv ER (ringRd m ρ) κ (cellAt x) : sProp 𝕄))) $$ HI
  icases HK with ⟨%K, #HI⟩
  iapply (bigSep_with_persistent (R := records m ρ K) (Φ := fun c => kit (F := F) c) fun c _ => by
    unfold G'; iintro ⟨H1, H2⟩; iexists K; iframe)
  isplitr
  · unfold records; isplitl
    · iexact HI
    · iexact HR
  · iapply (kits_intro (F := F)); iframe

/-- All devices' semaphores and minted cells become what each starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => cell_alloc m ρ c).trans (bigSep_fupd _ _)).trans (BI.fupd_mono (regroup m ρ))

/-! ## The credits -/

/-- A signal that a device's neighbour owes is a credit of the device's barrier, -/
theorem bar_credit (d : Bool) (c : Dev nD) :
    (Pipeline.launchCred (fun e => tallyAt (cell (peer d e) none) () 1) c : sProp 𝕄) ⊢ cred (tallyAt (cell c none) () 1) :=
  Pipeline.launchCred_tallyAt (semOf none) (peer d) (peer (!d)) (fun c => peer_back d c) (fun c => back_peer d c) () 1 c

/-- and a copy that it owes is a credit of the arriving end. -/
theorem due_credit (d : Bool) (h : Fin 3) (c : Dev nD) :
    (Pipeline.launchCred (fun e => due e d h) c : sProp 𝕄) ⊢ cred (tallyAt (cell c (some (true, d, h))) () N) :=
  Pipeline.launchCred_tallyAt (semOf (some (true, d, h))) (peer d) (peer (!d)) (fun c => peer_back d c) (fun c => back_peer d c) () N c

/-- What the devices owe each other is what each waits with. -/
theorem credits_intro (c : Dev nD) : (Pipeline.launchCred owedAll c : sProp 𝕄) ⊢ credits (F := F) c := by
  have h : (owedAll : Dev nD → CellTallies nD τ sig Unit) = fun e =>
      (((((((0 + due e true 2) + due e false 2) + due e true 1) + due e false 1) + due e true 0) + due e false 0)
        + tallyAt (cell (peer false e) none) () 1) + tallyAt (cell (peer true e) none) () 1 := rfl
  rw [h]
  simp only [Pipeline.launchCred_add]
  unfold credits
  rw [links_six]
  iintro ⟨⟨⟨⟨⟨⟨⟨⟨-, Ht2⟩, Hf2⟩, Ht1⟩, Hf1⟩, Ht0⟩, Hf0⟩, Hb⟩, Hb'⟩
  isplitl [Hb Hb']
  · rw [show (tallyAt (cell c none) () 2 : CellTallies nD τ sig Unit) = tallyAt (cell c none) () 1 + tallyAt (cell c none) () 1 from (tallyAt_add _ _ 1 1).symm]
    iapply (cred_add _ _).2
    isplitl [Hb]
    · iapply (bar_credit (F := F) false c); iexact Hb
    · iapply (bar_credit (F := F) true c); iexact Hb'
  isplitl [Hf0]; · iapply (due_credit (F := F) false 0 c); iexact Hf0
  isplitl [Hf1]; · iapply (due_credit (F := F) false 1 c); iexact Hf1
  isplitl [Hf2]; · iapply (due_credit (F := F) false 2 c); iexact Hf2
  isplitl [Ht0]; · iapply (due_credit (F := F) true 0 c); iexact Ht0
  isplitl [Ht1]; · iapply (due_credit (F := F) true 1 c); iexact Ht1
  iapply (due_credit (F := F) true 2 c); iexact Ht2

/-! ## The launch theorem's side conditions -/

/-- The launch gives each device what it starts with. -/
theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m ρ c)
      ⊢ |={Set.univ}=> iprop(start m ρ c ∗ emp) := by
  iintro ⟨-, Hlev, Hcr, -, HG⟩
  ihave Hc := (credits_intro (F := F) c) $$ Hcr
  imodintro
  unfold start G'
  isplitl
  · isplitl [HG]; · iexact HG
    iframe
  · iempintro

/-- A landing buffer at whatever contents, of both directions. -/
theorem landings_eq (c : Dev nD) :
    (Pipeline.scopedRest (Ix := Unit) (Name := ℕ) (U := UU) (Lvl := ℕ) (Val := Elt F) cfg0.spec c : sProp 𝕄)
      = iprop(landing (F := F) false c ∗ landing (F := F) true c) := by
  refine (scopedRest0_eq c).trans ?_
  unfold landing
  rw [show (scrM false).view.set = Finset.univ from View.set_whole _, show (scrM true).view.set = Finset.univ from View.set_whole _]

/-- With the landing buffers that is what the point starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, landings_eq]
  unfold Φ₀
  iintro ⟨Hs, -, Hf, Ht⟩
  iframe

/-- What the point leaves is every counter at zero and the landing buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, landings_eq, unscoped_eq]
  unfold Φ₁ Pipeline.ownSems0
  iintro ⟨Hf, Ht, Hz, Hzs⟩
  isplitl [Hz]; · iexact Hz
  isplitl [Hzs]; · iexact Hzs
  iframe

/-- The pipeline's own waits are allowed, whatever the ring still owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- An array's contents when the pipeline is done. -/
def finalA (c : Dev nD) (w : Fin cfg0.W) : Buf (Elt F) ((cfg0.win w).arr.view.loc (c : Thread nD τ)) := (dats m ρ 0 c).arrAt w cfg0.N

set_option maxRecDepth 8000 in
/-- From any memory with zero counters every fair execution of the four devices ends, every array as the pipeline leaves
    it and every counter at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owedAll) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The pipeline leaves an argument's array as it was, -/
theorem finalA_x (c : Dev nD) : finalA m ρ c (0 : Fin 3) = m (win0_0.arr.view.loc (c : Thread nD τ)) :=
  (dats (F := F) m ρ 0 c).arrAt_in (0 : Fin 3) rfl _
/-- the weights' as well. -/
theorem finalA_w (c : Dev nD) : finalA m ρ c (1 : Fin 3) = m (win0_1.arr.view.loc (c : Thread nD τ)) :=
  (dats (F := F) m ρ 0 c).arrAt_in (1 : Fin 3) rfl _

end Cert.KernelIdeal.Gather

end
-- ==== Proof.Ideal.Result.lean ====
/-
# What the run leaves

The result array of a device is `outAt`; the staged blocks are the argument arrays.
-/
module

public import proofs.«01_k».proof.Proof.Ideal.Launch

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's staged activations are its whole first argument, -/
theorem xstg_eq (c : Dev nD) : xstg m ρ c = m ((c : Thread nD τ).loc main_arg0) :=
  Memref.read_access_unit_zero (Elt F) main_arg0 (funext fun a => by fin_cases a <;> decide) (fun a => by fin_cases a <;> decide) _

/-- its staged weights its whole second one. -/
theorem wstg_eq (c : Dev nD) : wstg m ρ c = m ((c : Thread nD τ).loc main_arg1) :=
  Memref.read_access_unit_zero (Elt F) main_arg1 (funext fun a => by fin_cases a <;> decide) (fun a => by fin_cases a <;> decide) _

/-- The one block of the result's window is the whole array. -/
theorem block_out (f : main_v1.ty.Contents (Elt F)) : (win0_2.blk (0 : Fin 1)).view.read (Elt F) f = f :=
  Memref.read_access_unit_zero (Elt F) main_v1 (funext fun a => by fin_cases a <;> decide) (fun a => by fin_cases a <;> decide) f

/-- The result array ends at the result's final contents: the pipeline's one point flushes them. -/
theorem finalA_out (c : Dev nD) : finalA m ρ c (2 : Fin 3) = outAt m ρ c := by
  have h := (dats m ρ 0 c).arrAt_succ (2 : Fin 3) t₀
  rw [if_pos (show (cfg0.win (2 : Fin 3)).flush t₀ = true by decide)] at h
  refine (block_out _).symm.trans ((congrArg _ h).trans ?_)
  exact View.read_write_univ _ _

/-- Every fair execution ends with each device's result array at `outAt`, its arguments unchanged, every counter at zero. -/
theorem run_result : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (finalA_out m ρ c), (h.1 c (0 : Fin 3)).trans (finalA_x m ρ c),
    (h.1 c (1 : Fin 3)).trans (finalA_w m ρ c)⟩, h.2⟩) (run_main m ρ)

end Cert.KernelIdeal.Gather

end
-- ==== Proof.Value.lean ====
/-
# What is computed

Over the extended reals, every entry of every device's result is the activation of one entry of the whole product, as
the reference has it.
-/
module

public import proofs.«01_k».proof.Defs
public import proofs.«01_k».proof.Proof.Ideal.Result
public import proofs.«01_k».proof.Proof.Gen.ReferenceIdeal.Run
public import Idealize.ShloMosaic.Lib.Pointwise

@[expose] public section

noncomputable section

namespace Cert.Value

open Cert.KernelIdeal Cert.KernelIdeal.Gen Cert.KernelIdeal.Gather
open Idealize.ShloMosaic
open Idealize.ShloMosaic.TcCoe
open Idealize.SL.Sem

/-- The activation of an entry of the product. -/
def act (z : Ideal .f32) : Ideal .f32 :=
  (Scalar.ofBits (F := Ideal) .f32 0x3F000000#32 * z) * (Scalar.ofBits (F := Ideal) .f32 0x3F800000#32
    + FloatOps.tanh (F := Ideal) (Scalar.ofBits (F := Ideal) .f32 0x3F4C422A#32 * (z + Scalar.ofBits (F := Ideal) .f32 0x3D372713#32 * (z * z * z))))

/-- A half block's product under the activation, entry by entry; -/
theorem pay1_apply (x : S512x4096.Idx → Elt Ideal .bf16) (w : S4096x512.Idx → Elt Ideal .bf16) (r : Fin 512) (l : Fin 512) :
    k0_pay1 (F := Ideal) x w (ix2 r l) = act (∑ k : Fin 4096, x (ix2 r k) * w (ix2 k l)) := by
  unfold k0_pay1 act
  pointwise
  simp only [mul_assoc]

/-- a whole block's likewise. -/
theorem pay2_apply (x : S1024x4096.Idx → Elt Ideal .bf16) (w : S4096x512.Idx → Elt Ideal .bf16) (r : Fin 1024) (l : Fin 512) :
    k0_pay2 (F := Ideal) x w (ix2 r l) = act (∑ k : Fin 4096, x (ix2 r k) * w (ix2 k l)) := by
  unfold k0_pay2 act
  pointwise
  simp only [mul_assoc]

/-- Row `r` of a half block is row `r`, or `512 + r`, of its device's block. -/
theorem half_apply (m : (ℓ : Loc nD τ sig) → Buf (Elt Ideal) ℓ) (ρ : Dev nD → PrngReg) (d : Bool) (e : Dev nD) (r : Fin 512) (k : Fin 4096)
    (q : Fin 1024) (hq : q.val = cond d 512 0 + r.val) :
    half m ρ d e (ix2 r k) = m ((e : Thread nD τ).loc main_arg0) (ix2 q k) := by
  rw [← xstg_eq m ρ e]
  refine congrArg (xstg m ρ e) (funext fun a => ?_)
  have e0 : ((winR d).emb (ix2 r k) 0).val = cond d 512 0 + 1 * r.val := rfl
  have e1 : ((winR d).emb (ix2 r k) 1).val = 0 + 1 * k.val := rfl
  fin_cases a
  · exact Fin.ext (e0.trans (by rw [one_mul]; exact hq.symm))
  · exact Fin.ext (e1.trans (by rw [one_mul, zero_add]; rfl))

/-- The reference's result. -/
abbrev whole (X : Cert.ReferenceIdeal.S4096x4096.Idx → Elt Ideal .bf16) (W : Cert.ReferenceIdeal.S4096x2048.Idx → Elt Ideal .bf16) :
    Cert.ReferenceIdeal.S4096x2048.Idx → Elt Ideal .f32 :=
  fun y => act (∑ k : Fin 4096, X (ix2 (⟨(y 0).val, (y 0).isLt⟩ : Fin 4096) k) * W (ix2 k (⟨(y 1).val, (y 1).isLt⟩ : Fin 2048)))

open Cert.ReferenceIdeal in
/-- The reference ends with its result at `whole` of its arguments, which it leaves. -/
theorem run_whole (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c : Thread Cert.ReferenceIdeal.nD Cert.ReferenceIdeal.τ).loc Cert.ReferenceIdeal.main_v15)
        = whole (m ((c : Thread Cert.ReferenceIdeal.nD Cert.ReferenceIdeal.τ).loc Cert.ReferenceIdeal.main_arg0))
            (m ((c : Thread Cert.ReferenceIdeal.nD Cert.ReferenceIdeal.τ).loc Cert.ReferenceIdeal.main_arg1))
      ∧ r.2.mem ((c : Thread Cert.ReferenceIdeal.nD Cert.ReferenceIdeal.τ).loc Cert.ReferenceIdeal.main_arg0)
        = m ((c : Thread Cert.ReferenceIdeal.nD Cert.ReferenceIdeal.τ).loc Cert.ReferenceIdeal.main_arg0)
      ∧ r.2.mem ((c : Thread Cert.ReferenceIdeal.nD Cert.ReferenceIdeal.τ).loc Cert.ReferenceIdeal.main_arg1)
        = m ((c : Thread Cert.ReferenceIdeal.nD Cert.ReferenceIdeal.τ).loc Cert.ReferenceIdeal.main_arg1)) := by
  refine (θ_run Cert.ReferenceIdeal.defs _ _).mono (fun r h c => ⟨(h c).1.trans (funext fun y => ?_), (h c).2⟩) (Cert.ReferenceIdeal.Value.run m ρ)
  unfold whole act
  pointwise

/-- Where the devices' arguments are the blocks of the whole ones, each device's result is its block of the whole result. -/
theorem outAt_eq (m : (ℓ : Loc nD τ sig) → Buf (Elt Ideal) ℓ) (ρ : Dev nD → PrngReg)
    (X : Cert.ReferenceIdeal.S4096x4096.Idx → Elt Ideal .bf16) (W : Cert.ReferenceIdeal.S4096x2048.Idx → Elt Ideal .bf16)
    (hX : ∀ c : Dev nD, m ((c : Thread nD τ).loc main_arg0) = Layout.block ⟨2, ![1024, 4096]⟩ ⟨2, ![4096, 4096]⟩ 0 4 c X)
    (hW : ∀ c : Dev nD, m ((c : Thread nD τ).loc main_arg1) = Layout.block ⟨2, ![4096, 512]⟩ ⟨2, ![4096, 2048]⟩ 1 4 c W)
    (c : Dev nD) : outAt m ρ c = Layout.block ⟨2, ![4096, 512]⟩ ⟨2, ![4096, 2048]⟩ 1 4 c (whole X W) := by
  funext y
  have hy : (y 0).val < 4096 := (y 0).isLt
  have hl : (y 1).val < 512 := (y 1).isLt
  have hc : c.val < 4 := c.isLt
  -- the row, at the device `e` that owns it
  have row : ∀ (e : Dev nD) (q : Fin 1024) (k : Fin 4096), (y 0).val = e.val * 1024 + q.val →
      m ((e : Thread nD τ).loc main_arg0) (ix2 q k) = X (ix2 (⟨(y 0).val, hy⟩ : Fin 4096) k) := by
    intro e q k h
    rw [hX e]
    refine congrArg X (funext fun a => ?_)
    fin_cases a
    · exact Fin.ext h.symm
    · rfl
  -- the column, at the device itself
  have col : ∀ k : Fin 4096, wstg m ρ c (ix2 k (⟨(y 1).val, (y 1).isLt⟩ : Fin 512))
      = W (ix2 k (⟨c.val * 512 + (y 1).val, by omega⟩ : Fin 2048)) := by
    intro k
    rw [wstg_eq, hW c]
    refine congrArg W (funext fun a => ?_)
    fin_cases a <;> rfl
  rw [Layout.block_apply]
  unfold outAt
  split
  · rename_i h
    rw [pay2_apply]
    refine congrArg act (Finset.sum_congr rfl fun k _ => congrArg₂ _ ?_ (col k))
    rw [xstg_eq]
    exact row c _ k (by dsimp only; omega)
  · rw [pay1_apply]
    refine congrArg act (Finset.sum_congr rfl fun k _ => congrArg₂ _ ?_ (col k))
    rw [half_apply m ρ _ _ _ _ ⟨(y 0).val % 1024, Nat.mod_lt _ (by decide)⟩ (by
      by_cases h : 512 ≤ (y 0).val % 1024
      · simp only [h, decide_true, cond_true]; omega
      · simp only [h, decide_false, cond_false]; omega)]
    exact row _ _ k (by dsimp only; omega)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Real.Result
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every execution of the kernel, over the bits, ends with its arguments unchanged and every counter at zero; -/
theorem frame_kernel : Cert.quiescent_Kernel := fun m ρ _ =>
  (θ_run Cert.Kernel.defs _ _).mono (fun _ h => ⟨fun c => (h.1 c).2, h.2⟩) (Cert.Kernel.Gather.run_result (F := Bits) m ρ)

/-- so does every one over the extended reals, -/
theorem frame_ideal : Cert.quiescent_KernelIdeal := fun m ρ _ =>
  (θ_run Cert.KernelIdeal.defs _ _).mono (fun _ h => ⟨fun c => (h.1 c).2, h.2⟩) (Cert.KernelIdeal.Gather.run_result (F := Ideal) m ρ)

/-- and every one of the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.Value.run_whole m ρ)

/-- From arguments that are the blocks of the reference's, each device ends with its block of the reference's result. -/
theorem equal : Cert.algebraic_KernelIdeal_ReferenceIdeal := by
  intro m ρ m' ρ' _ hb
  exact ⟨_, (θ_run Cert.KernelIdeal.defs _ _).mono
      (fun _ h c => ⟨(h.1 c).1.trans (Cert.Value.outAt_eq m ρ _ _ (fun c => (hb c).1) (fun c => (hb c).2) c), (h.1 c).2⟩)
      (Cert.KernelIdeal.Gather.run_result (F := Ideal) m ρ),
    (θ_run Cert.ReferenceIdeal.defs _ _).mono (fun _ h => h 0) (Cert.Value.run_whole m' ρ')⟩

/-- The certificate's claim: the facts stated, the three executions, and the equation. -/
theorem claim : Cert.Claim :=
  ⟨Cert.Kernel.Gen.facts, Cert.KernelIdeal.Gen.facts, Cert.ReferenceIdeal.Gen.facts, frame_kernel, frame_ideal, frame_reference, trivial, equal⟩

end Cert.Proof

end
